-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x8192 : Shape := ⟨2, ![8192, 8192]⟩
abbrev S4096x4096 : Shape := ⟨2, ![4096, 4096]⟩
abbrev S2048x128 : Shape := ⟨2, ![2048, 128]⟩
abbrev S4096 : Shape := ⟨1, ![4096]⟩
abbrev S2048 : Shape := ⟨1, ![2048]⟩
abbrev S128x128 : Shape := ⟨2, ![128, 128]⟩
abbrev S128 : Shape := ⟨1, ![128]⟩
abbrev S_ : Shape := ⟨0, ![]⟩
abbrev S2048x1 : Shape := ⟨2, ![2048, 1]⟩
abbrev S8192 : Shape := ⟨1, ![8192]⟩
abbrev S4096x1 : Shape := ⟨2, ![4096, 1]⟩
abbrev S1x128 : Shape := ⟨2, ![1, 128]⟩
abbrev S2049x128 : Shape := ⟨2, ![2049, 128]⟩
abbrev S8192x128 : Shape := ⟨2, ![8192, 128]⟩
abbrev S256 : Shape := ⟨1, ![256]⟩
abbrev S256x128 : Shape := ⟨2, ![256, 128]⟩
abbrev S256x8192 : Shape := ⟨2, ![256, 8192]⟩

abbrev nBuf : Table → Nat
  | .hbm => 43
  | .local .tc .vmem => 7
  | .local .scVector .vmem => 2
  | _ => 0

abbrev bufTy : (tb : Table) → Fin (nBuf tb) → BufTy
  | .hbm, ⟨0, _⟩ => ⟨S8192x8192, .f32⟩
  | .hbm, ⟨1, _⟩ => ⟨S4096x4096, .f32⟩
  | .hbm, ⟨2, _⟩ => ⟨S2048x128, .f32⟩
  | .hbm, ⟨3, _⟩ => ⟨S4096, .i32⟩
  | .hbm, ⟨4, _⟩ => ⟨S2048, .i32⟩
  | .hbm, ⟨5, _⟩ => ⟨S128x128, .f32⟩
  | .hbm, ⟨6, _⟩ => ⟨S128, .f32⟩
  | .hbm, ⟨7, _⟩ => ⟨S2048, .i32⟩
  | .hbm, ⟨8, _⟩ => ⟨S_, .i32⟩
  | .hbm, ⟨9, _⟩ => ⟨S4096, .i32⟩
  | .hbm, ⟨10, _⟩ => ⟨S_, .i32⟩
  | .hbm, ⟨11, _⟩ => ⟨S2048, .i32⟩
  | .hbm, ⟨12, _⟩ => ⟨S2048, .i1⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S2048, .i32⟩
  | .hbm, ⟨17, _⟩ => ⟨S2048x1, .i32⟩
  | .hbm, ⟨18, _⟩ => ⟨S4096, .i32⟩
  | .hbm, ⟨19, _⟩ => ⟨S_, .i32⟩
  | .hbm, ⟨20, _⟩ => ⟨S8192, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S8192, .i32⟩
  | .hbm, ⟨30, _⟩ => ⟨S_, .i32⟩
  | .hbm, ⟨31, _⟩ => ⟨S8192, .i32⟩
  | .hbm, ⟨32, _⟩ => ⟨S8192, .i1⟩
  | .hbm, ⟨33, _⟩ => ⟨S_, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S_, .f32⟩
  | .hbm, ⟨38, _⟩ => ⟨S1x128, .f32⟩
  | .hbm, ⟨39, _⟩ => ⟨S2049x128, .f32⟩
  | .hbm, ⟨40, _⟩ => ⟨S8192x128, .f32⟩
  | .hbm, ⟨41, _⟩ => ⟨S1x128, .f32⟩
  | .hbm, ⟨42, _⟩ => ⟨S8192x128, .f32⟩
  | .local .tc .vmem, ⟨0, _⟩ => ⟨S256x8192, .f32⟩
  | .local .tc .vmem, ⟨1, _⟩ => ⟨S256x8192, .f32⟩
  | .local .tc .vmem, ⟨2, _⟩ => ⟨S8192x128, .f32⟩
  | .local .tc .vmem, ⟨3, _⟩ => ⟨S128x128, .f32⟩
  | .local .tc .vmem, ⟨4, _⟩ => ⟨S1x128, .f32⟩
  | .local .tc .vmem, ⟨5, _⟩ => ⟨S256x128, .f32⟩
  | .local .tc .vmem, ⟨6, _⟩ => ⟨S256x128, .f32⟩
  | .local .scVector .vmem, ⟨0, _⟩ => ⟨S256, .i32⟩
  | .local .scVector .vmem, ⟨1, _⟩ => ⟨S256x128, .f32⟩
  | _, _ => ⟨S8192x8192, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_c_3 : Ref sig .tc := ⟨.hbm, 21, rfl⟩
abbrev main_v10 : Ref sig .tc := ⟨.hbm, 22, rfl⟩
abbrev main_v11 : Ref sig .tc := ⟨.hbm, 23, rfl⟩
abbrev main_c_4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_5 : Ref sig .tc := ⟨.hbm, 30, rfl⟩
abbrev main_v17 : Ref sig .tc := ⟨.hbm, 31, rfl⟩
abbrev main_v18 : Ref sig .tc := ⟨.hbm, 32, rfl⟩
abbrev main_c_6 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_cst : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v19_scv : Ref sig .scVector := ⟨.hbm, 36, rfl⟩
abbrev main_v21_scv : Ref sig .scVector := ⟨.hbm, 39, rfl⟩
abbrev main_v22_scv : Ref sig .scVector := ⟨.hbm, 40, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg4_1 : Ref sig .tc := ⟨.vmem, 6, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_3_r1 : BitVec 32 := 0#32
  ![v2.toNat, 0]
abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8192x8192 : Shape := ⟨2, ![8192, 8192]⟩
abbrev S4096x4096 : Shape := ⟨2, ![4096, 4096]⟩
abbrev S2048x128 : Shape := ⟨2, ![2048, 128]⟩
abbrev S4096 : Shape := ⟨1, ![4096]⟩
abbrev S2048 : Shape := ⟨1, ![2048]⟩
abbrev S128x128 : Shape := ⟨2, ![128, 128]⟩
abbrev S128 : Shape := ⟨1, ![128]⟩
abbrev S_ : Shape := ⟨0, ![]⟩
abbrev S4096x128 : Shape := ⟨2, ![4096, 128]⟩
abbrev S2048x1 : Shape := ⟨2, ![2048, 1]⟩
abbrev S8192x128 : Shape := ⟨2, ![8192, 128]⟩
abbrev S4096x1 : Shape := ⟨2, ![4096, 1]⟩
abbrev S1x128 : Shape := ⟨2, ![1, 128]⟩

abbrev nBuf : Space → Nat
  | .hbm => 38
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S4096x4096, .f32⟩
  | .hbm, ⟨2, _⟩ => ⟨S2048x128, .f32⟩
  | .hbm, ⟨3, _⟩ => ⟨S4096, .i32⟩
  | .hbm, ⟨4, _⟩ => ⟨S2048, .i32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S4096x128, .f32⟩
  | .hbm, ⟨9, _⟩ => ⟨S_, .i32⟩
  | .hbm, ⟨10, _⟩ => ⟨S2048, .i32⟩
  | .hbm, ⟨11, _⟩ => ⟨S2048, .i1⟩
  | .hbm, ⟨12, _⟩ => ⟨S_, .i32⟩
  | .hbm, ⟨13, _⟩ => ⟨S2048, .i32⟩
  | .hbm, ⟨14, _⟩ => ⟨S2048, .i32⟩
  | .hbm, ⟨15, _⟩ => ⟨S2048, .i32⟩
  | .hbm, ⟨16, _⟩ => ⟨S2048x1, .i32⟩
  | .hbm, ⟨17, _⟩ => ⟨S4096x128, .f32⟩
  | .hbm, ⟨18, _⟩ => ⟨S_, .f32⟩
  | .hbm, ⟨19, _⟩ => ⟨S8192x128, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S8192x128, .f32⟩
  | .hbm, ⟨29, _⟩ => ⟨S8192x128, .f32⟩
  | .hbm, ⟨30, _⟩ => ⟨S128x128, .f32⟩
  | .hbm, ⟨31, _⟩ => ⟨S8192x128, .f32⟩
  | .hbm, ⟨32, _⟩ => ⟨S1x128, .f32⟩
  | .hbm, ⟨33, _⟩ => ⟨S8192x128, .f32⟩
  | .hbm, ⟨34, _⟩ => ⟨S8192x128, .f32⟩
  | .hbm, ⟨35, _⟩ => ⟨S_, .f32⟩
  | .hbm, ⟨36, _⟩ => ⟨S8192x128, .f32⟩
  | .hbm, ⟨37, _⟩ => ⟨S8192x128, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_c_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call0_cst : Ref sig .tc := ⟨.hbm, 35, rfl⟩
abbrev main_call0_v0 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Proof.Rows.lean ====
/-
  Two facts about a host scatter that writes (`fun _ b => b`) at one column of row numbers: what it leaves keeps any property shared by the operand's and
  the updates' entries, and a scatter of whole rows stays in step, entry by entry, with the scatter of one scalar per row at the same row numbers. Row
  numbers may repeat and may lie outside: the last row in order wins in both, and one outside is dropped in both.
-/
module

public import Idealize.ShloMosaic.Lib.Routing.OpsPair
public import Idealize.ShloMosaic.Lib.ValueIdxCore

@[expose] public section

namespace Cert.Unpool

open Idealize.ShloMosaic Idealize.ShloMosaic.Routing Idealize.ShloMosaic.ValueIdx

/-- A fold over increasing places that overwrites where `p` holds ends in `v n`, for the last place `n` where `p` holds, or in what it started from, where
    `p` holds nowhere. -/
theorem foldl_overwrite {ι α : Type} [LinearOrder ι] (p : ι → Prop) [DecidablePred p] (v : ι → α) : ∀ (l : List ι) (a : α), l.Pairwise (· < ·) →
    (∃ n ∈ l, p n ∧ (∀ n' ∈ l, p n' → n' ≤ n) ∧ l.foldl (fun a n => if p n then v n else a) a = v n)
      ∨ (∀ n ∈ l, ¬ p n) ∧ l.foldl (fun a n => if p n then v n else a) a = a
  | [], a, _ => .inr ⟨nofun, rfl⟩
  | n :: l, a, h => by
    obtain ⟨hn, hl⟩ := List.pairwise_cons.1 h
    rw [List.foldl_cons]
    rcases foldl_overwrite p v l (if p n then v n else a) hl with ⟨k, hk, pk, later, e⟩ | ⟨none, e⟩
    · refine .inl ⟨k, List.mem_cons_of_mem _ hk, pk, fun n' hn' pn' => ?_, e⟩
      rcases List.mem_cons.1 hn' with rfl | hn'
      · exact (hn k hk).le
      · exact later n' hn' pn'
    · by_cases pn : p n
      · refine .inl ⟨n, List.mem_cons_self, pn, fun n' hn' pn' => ?_, by rw [e, if_pos pn]⟩
        rcases List.mem_cons.1 hn' with rfl | hn'
        · exact le_rfl
        · exact (none n' hn' pn').elim
      · refine .inr ⟨fun n' hn' => ?_, by rw [e, if_neg pn]⟩
        rcases List.mem_cons.1 hn' with rfl | hn'
        · exact pn
        · exact none n' hn'

/-- A scatter that writes, at one entry: the update of the last update index that lands there, or the operand's entry, where none lands. -/
theorem scatter_last {α : Type} {s si u : Shape} {w : ℕ} (d : ScatterDims s si u) (x : s.Idx → α) (idx : IVec si w) (upd : u.Idx → α) (i : s.Idx) :
    (∃ j, d.resultIdx? j idx = some i ∧ (∀ j', d.resultIdx? j' idx = some i → (u.rowMajor j').val ≤ (u.rowMajor j).val)
        ∧ Host.scatter d (fun _ b => b) x idx upd i = upd j)
      ∨ (∀ j, d.resultIdx? j idx ≠ some i) ∧ Host.scatter d (fun _ b => b) x idx upd i = x i := by
  rw [scatter_at]
  rcases foldl_overwrite (fun n => d.resultIdx? (u.rowMajor.symm n) idx = some i) (fun n => upd (u.rowMajor.symm n)) (List.finRange u.numel) (x i)
    (List.pairwise_lt_finRange _) with ⟨n, -, pn, later, e⟩ | ⟨none, e⟩
  · refine .inl ⟨u.rowMajor.symm n, pn, fun j' hj' => ?_, e⟩
    rw [Equiv.apply_symm_apply]
    exact later (u.rowMajor j') (List.mem_finRange _) (by rw [Equiv.symm_apply_apply]; exact hj')
  · refine .inr ⟨fun j hj => none (u.rowMajor j) (List.mem_finRange _) ?_, e⟩
    rw [Equiv.symm_apply_apply]
    exact hj

/-- A property of every entry of the operand and of every update is one of every entry of the scatter that writes. -/
theorem scatter_keeps {α : Type} {s si u : Shape} {w : ℕ} (q : α → Prop) (d : ScatterDims s si u) (x : s.Idx → α) (idx : IVec si w) (upd : u.Idx → α)
    (hx : ∀ i, q (x i)) (hu : ∀ j, q (upd j)) (i : s.Idx) : q (Host.scatter d (fun _ b => b) x idx upd i) := by
  rcases scatter_last d x idx upd i with ⟨j, -, -, e⟩ | ⟨-, e⟩ <;> rw [e]
  · exact hu j
  · exact hx i

variable {N M C w : ℕ}

/-- The place of row number `m` in a column of row numbers. -/
abbrev inColumn (m : Fin M) : (⟨2, ![M, 1]⟩ : Shape).Idx := fun | 0 => m | 1 => ⟨0, Nat.one_pos⟩

/-- Scalar `j` lands at row `i` exactly when its row number, read signed, is `i`. -/
theorem lands_scalar (wf : ScatterDims.WF ⟨1, ![N]⟩ ⟨2, ![M, 1]⟩ ⟨1, ![M]⟩ [] [0] [0] 1) (idx : IVec ⟨2, ![M, 1]⟩ w)
    (j : (⟨1, ![M]⟩ : Shape).Idx) (i : (⟨1, ![N]⟩ : Shape).Idx) :
    (⟨[], [0], [0], 1, wf⟩ : ScatterDims ⟨1, ![N]⟩ ⟨2, ![M, 1]⟩ ⟨1, ![M]⟩).resultIdx? j idx = some i
      ↔ (idx (inColumn (j 0))).toInt = (i 0).val := by
  rw [resultIdx?_eq_some]
  have hs : (⟨[], [0], [0], 1, wf⟩ : ScatterDims ⟨1, ![N]⟩ ⟨2, ![M, 1]⟩ ⟨1, ![M]⟩).start j idx 0 = (idx (inColumn (j 0))).toInt := by
    unfold ScatterDims.start
    rw [dif_pos (by simp)]
    refine congrArg (fun k => (idx k).toInt) (funext fun b => ?_)
    match b with
    | 0 => rfl
    | 1 => rfl
  have hw : (⟨[], [0], [0], 1, wf⟩ : ScatterDims ⟨1, ![N]⟩ ⟨2, ![M, 1]⟩ ⟨1, ![M]⟩).window j 0 = 0 := rfl
  constructor
  · intro h
    have := h 0
    rw [hs, hw] at this
    simpa using this
  · intro h a
    match a with
    | 0 => rw [hs, hw, h]; simp

/-- Entry `(j 0, j 1)` of the rows lands at `(i 0, i 1)` exactly when its row's number, read signed, is `i 0` and the columns are the same. -/
theorem lands_row (wf : ScatterDims.WF ⟨2, ![N, C]⟩ ⟨2, ![M, 1]⟩ ⟨2, ![M, C]⟩ [1] [0] [0] 1) (idx : IVec ⟨2, ![M, 1]⟩ w)
    (j : (⟨2, ![M, C]⟩ : Shape).Idx) (i : (⟨2, ![N, C]⟩ : Shape).Idx) :
    (⟨[1], [0], [0], 1, wf⟩ : ScatterDims ⟨2, ![N, C]⟩ ⟨2, ![M, 1]⟩ ⟨2, ![M, C]⟩).resultIdx? j idx = some i
      ↔ (idx (inColumn (j 0))).toInt = (i 0).val ∧ (j 1).val = (i 1).val := by
  rw [resultIdx?_eq_some]
  have hs : (⟨[1], [0], [0], 1, wf⟩ : ScatterDims ⟨2, ![N, C]⟩ ⟨2, ![M, 1]⟩ ⟨2, ![M, C]⟩).start j idx 0 = (idx (inColumn (j 0))).toInt := by
    unfold ScatterDims.start
    rw [dif_pos (by simp)]
    refine congrArg (fun k => (idx k).toInt) (funext fun b => ?_)
    match b with
    | 0 => rfl
    | 1 => rfl
  have hs' : (⟨[1], [0], [0], 1, wf⟩ : ScatterDims ⟨2, ![N, C]⟩ ⟨2, ![M, 1]⟩ ⟨2, ![M, C]⟩).start j idx 1 = 0 := rfl
  have hw : (⟨[1], [0], [0], 1, wf⟩ : ScatterDims ⟨2, ![N, C]⟩ ⟨2, ![M, 1]⟩ ⟨2, ![M, C]⟩).window j 0 = 0 := rfl
  have hw' : (⟨[1], [0], [0], 1, wf⟩ : ScatterDims ⟨2, ![N, C]⟩ ⟨2, ![M, 1]⟩ ⟨2, ![M, C]⟩).window j 1 = (j 1).val := rfl
  constructor
  · intro h
    have h0 := h 0
    have h1 := h 1
    rw [hs, hw] at h0
    rw [hs', hw'] at h1
    exact ⟨by simpa using h0, by omega⟩
  · intro h a
    match a with
    | 0 => rw [hs, hw, h.1]; simp
    | 1 => rw [hs', hw', h.2]; simp

/-- A relation between a scalar and an entry of column `c` that holds, row by row, of the operands and of the updates holds, row by row, of the scatter of
    the scalars and the scatter of the rows at the same row numbers. -/
theorem scatter_in_step {α β : Type} (rel : α → β → Prop) (c : Fin C) {d₁ : ScatterDims ⟨1, ![N]⟩ ⟨2, ![M, 1]⟩ ⟨1, ![M]⟩}
    {d₂ : ScatterDims ⟨2, ![N, C]⟩ ⟨2, ![M, 1]⟩ ⟨2, ![M, C]⟩} (hd₁ : ∃ wf, d₁ = ⟨[], [0], [0], 1, wf⟩) (hd₂ : ∃ wf, d₂ = ⟨[1], [0], [0], 1, wf⟩) (idx : IVec ⟨2, ![M, 1]⟩ w)
    (x₁ : (⟨1, ![N]⟩ : Shape).Idx → α) (x₂ : (⟨2, ![N, C]⟩ : Shape).Idx → β) (u₁ : (⟨1, ![M]⟩ : Shape).Idx → α) (u₂ : (⟨2, ![M, C]⟩ : Shape).Idx → β)
    (hx : ∀ r : Fin N, rel (x₁ (ix1 r)) (x₂ (ix2 r c))) (hu : ∀ m : Fin M, rel (u₁ (ix1 m)) (u₂ (ix2 m c))) (r : Fin N) :
    rel (Host.scatter d₁ (fun _ b => b) x₁ idx u₁ (ix1 r)) (Host.scatter d₂ (fun _ b => b) x₂ idx u₂ (ix2 r c)) := by
  obtain ⟨wf₁, rfl⟩ := hd₁
  obtain ⟨wf₂, rfl⟩ := hd₂
  rcases scatter_last _ x₁ idx u₁ (ix1 r) with ⟨j, hj, later, e⟩ | ⟨none, e⟩ <;>
    rcases scatter_last _ x₂ idx u₂ (ix2 r c) with ⟨k, hk, later', e'⟩ | ⟨none', e'⟩ <;> rw [e, e']
  · rw [lands_scalar] at hj
    rw [lands_row] at hk
    have hkj := later (ix1 (k 0)) ((lands_scalar ..).2 hk.1)
    have hjk := later' (ix2 (j 0) c) ((lands_row ..).2 ⟨hj, rfl⟩)
    rw [Shape.rowMajor_val_one, Shape.rowMajor_val_one] at hkj
    rw [Shape.rowMajor_val_two, Shape.rowMajor_val_two] at hjk
    change (k 0).val ≤ (j 0).val at hkj
    change (j 0).val * C + c.val ≤ (k 0).val * C + (k 1).val at hjk
    have hc : (k 1).val = c.val := hk.2
    have hjk' : (j 0).val ≤ (k 0).val := by
      rw [hc] at hjk
      exact Nat.le_of_mul_le_mul_right (Nat.le_of_add_le_add_right hjk) (Nat.zero_lt_of_lt c.isLt)
    have h0 : k 0 = j 0 := Fin.ext (Nat.le_antisymm hkj hjk')
    have hk' : k = ix2 (j 0) c := (eq_ix2 k).trans (congrArg₂ ix2 h0 (Fin.ext hc))
    rw [eq_ix1 j, hk']
    exact hu (j 0)
  · rw [lands_scalar] at hj
    exact (none' (ix2 (j 0) c) ((lands_row ..).2 ⟨hj, rfl⟩)).elim
  · rw [lands_row] at hk
    exact (none (ix1 (k 0)) ((lands_scalar ..).2 hk.1)).elim
  · exact hx r

end Cert.Unpool
-- ==== Proof.KernelIdeal.Setup.lean ====
/-
  The SparseCore call as the launch theorem sees it: the program's two labelled tables, the ghost state, the three
  arrays the call moves (the row numbers, the table of rows, the array of gathered rows), how they are cut into the
  thirty-two tasks' parts, and what the handshakes carry.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Unpool

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program's tables -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on two SparseCores. -/
theorem nCore_zero : (K (F := F)).nCore 0 = 2 := rfl
/-- The call runs on sixteen tiles of each. -/
theorem nSub_zero : (K (F := F)).nSub 0 = 16 := rfl

/-- The handshakes' semaphores are four distinct unscoped ones, and no SparseCore's own buffer is shared with a task. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the staging pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR

/-! ## The call's three arrays -/

/-- The row numbers, the table of rows and the array of gathered rows. -/
abbrev sLoc (d : Dev nD) : Loc nD τ sig := (SparseCore.T d).loc main_v19
abbrev tLoc (d : Dev nD) : Loc nD τ sig := (SparseCore.T d).loc main_v21
abbrev oLoc (d : Dev nD) : Loc nD τ sig := (SparseCore.T d).loc main_v22

theorem sdiv : 32 ∣ S8192.size 0 := ⟨256, rfl⟩
theorem odiv : 32 ∣ S8192x128.size 0 := ⟨256, rfl⟩
/-- Part `w` of the row numbers: 256 consecutive ones. -/
abbrev sPart (w : Fin 32) : Rect S8192 := Rect.part (s := S8192) (a₀ := 0) sdiv w
/-- Part `w` of the gathered rows: the 256 rows of those numbers. -/
abbrev oPart (w : Fin 32) : Rect S8192x128 := Rect.part (s := S8192x128) (a₀ := 0) odiv w

/-- The part task `(c, s)` works on. -/
def part (c : Fin 2) (s : Fin 16) : Fin 32 := ⟨2 * s.val + c.val, by omega⟩

/-- The tasks are the parts. -/
def tasks : Fin 2 × Fin 16 ≃ Fin 32 where
  toFun p := part p.1 p.2
  invFun w := (⟨w.val % 2, by omega⟩, ⟨w.val / 2, by omega⟩)
  left_inv p := by ext <;> simp only [part] <;> omega
  right_inv w := by ext; simp only [part]; omega

/-- The gathered rows: row `r` is the table's row whose number stands at `r` (the last row, should the number be
    past the table). -/
def gathered {V : EltTy → Type} (sv : S8192.Idx → BitVec 32) (tv : S2049x128.Idx → V .f32) : S8192x128.Idx → V .f32 := fun x =>
  tv fun | 0 => ⟨min (sv fun | 0 => x 0).toNat 2048, by show _ < 2049; omega⟩ | 1 => x 1

/-! ## What the handshakes carry -/

/-- The three arrays' contents when the call is made. -/
structure In (F : FTy → Type) where
  sv : (d : Dev nD) → Buf (Elt F) (sLoc d)
  tv : (d : Dev nD) → Buf (Elt F) (tLoc d)
  ov : (d : Dev nD) → Buf (Elt F) (oLoc d)

/-- Every row number names a row of the table. -/
def In.Ok (I : In F) : Prop := ∀ (d : Dev nD) (j : S8192.Idx), (I.sv d j : BitVec 32).toNat < 2049

variable (I : In F)

/-- What the call leaves in the array of gathered rows. -/
abbrev In.res (d : Dev nD) : Buf (Elt F) (oLoc d) := gathered (V := Elt F) (I.sv d) (I.tv d)

/-- Task `w`'s share of the table: one of thirty-two pieces of the whole. -/
abbrev tq (w : Fin 32) : PosShare TreeShare := pieceOf fullShare 32 (by decide) w

abbrev sPts (d : Dev nD) (w : Fin 32) : sProp 𝕄 := sLoc d ↦[(sPart w).set]{fullShare} I.sv d
abbrev tPts (d : Dev nD) (w : Fin 32) : sProp 𝕄 := tLoc d ↦{tq w} I.tv d
abbrev oPts (d : Dev nD) (w : Fin 32) (f : Buf (Elt F) (oLoc d)) : sProp 𝕄 := oLoc d ↦[(oPart w).set]{fullShare} f

/-- What task `w` is given, and what it gives back: its part of the row numbers, its share of the table, its part of
    the gathered rows. -/
abbrev given (d : Dev nD) (w : Fin 32) : sProp 𝕄 := iprop(sPts I d w ∗ tPts I d w ∗ oPts d w (I.ov d))
abbrev back (d : Dev nD) (w : Fin 32) : sProp 𝕄 := iprop(sPts I d w ∗ tPts I d w ∗ oPts d w (I.res d))

/-- Each SparseCore is given what its sixteen tasks are, and gives back what they do. -/
def P : (K (F := F)).Pay (nD := nD) (Val := Elt F) (Name := ℕ) (U := UU) where
  st := fun q d c => match q with | 0 => bigSep Finset.univ fun s : Fin 16 => given I d (part (Fin.cast nCore_zero c) s)
  dn := fun q d c => match q with | 0 => bigSep Finset.univ fun s : Fin 16 => back I d (part (Fin.cast nCore_zero c) s)
  go := fun q d c s => match q with | 0 => given I d (part (Fin.cast nCore_zero c) (Fin.cast nSub_zero s))
  td := fun q d c s => match q with | 0 => back I d (part (Fin.cast nCore_zero c) (Fin.cast nSub_zero s))
  x := fun _ _ => iprop(emp)

instance P_storable : (P (F := F) I).IsStorable where
  st q d c := match q with
    | 0 => (inferInstance : BI.Storable (upEmb : UEmb _ 𝕄) (bigSep Finset.univ fun s : Fin 16 => given I d (part (Fin.cast nCore_zero c) s)))
  dn q d c := match q with
    | 0 => (inferInstance : BI.Storable (upEmb : UEmb _ 𝕄) (bigSep Finset.univ fun s : Fin 16 => back I d (part (Fin.cast nCore_zero c) s)))
  go q d c s := match q with
    | 0 => (inferInstance : BI.Storable (upEmb : UEmb _ 𝕄) (given I d (part (Fin.cast nCore_zero c) (Fin.cast nSub_zero s))))
  td q d c s := match q with
    | 0 => (inferInstance : BI.Storable (upEmb : UEmb _ 𝕄) (back I d (part (Fin.cast nCore_zero c) (Fin.cast nSub_zero s))))

/-- The staging pipeline's ghost state is stored with the rest. -/
instance : (EP (F := F)).LandsIn (upEmb : UEmb _ 𝕄) := inferInstance

/-! ## The arrays are their parts -/

/-- The row numbers whole are their thirty-two parts. -/
theorem sPts_parts (d : Dev nD) (f : Buf (Elt F) (sLoc d)) :
    (sLoc d ↦{fullShare} f : sProp 𝕄) = bigSep Finset.univ fun w : Fin 32 => sLoc d ↦[(sPart w).set]{fullShare} f := by
  rw [← pointsTo_biUnion Finset.univ (ℓ := sLoc d) (fun w => (sPart w).set) fun w _ w' _ h => Rect.part_disjoint sdiv h,
    Rect.biUnion_part sdiv]; try rfl

/-- The gathered rows whole are their thirty-two parts. -/
theorem oPts_parts (d : Dev nD) (f : Buf (Elt F) (oLoc d)) :
    (oLoc d ↦{fullShare} f : sProp 𝕄) = bigSep Finset.univ fun w : Fin 32 => oLoc d ↦[(oPart w).set]{fullShare} f := by
  rw [← pointsTo_biUnion Finset.univ (ℓ := oLoc d) (fun w => (oPart w).set) fun w _ w' _ h => Rect.part_disjoint odiv h,
    Rect.biUnion_part odiv]; try rfl

/-- Something held of every part is held, core by core and tile by tile, of every task. -/
theorem bigSep_tasks (Φ : Fin 32 → sProp 𝕄) :
    bigSep Finset.univ Φ = bigSep Finset.univ fun c : Fin 2 => bigSep Finset.univ fun s : Fin 16 => Φ (part c s) := by
  rw [bigSep_univ_equiv tasks Φ, ← Finset.univ_product_univ, SparseCore.bigSep_product]; rfl

/-- The three arrays whole, the third at any contents, are what the cores carry. -/
theorem whole_eq (d : Dev nD) (f : Buf (Elt F) (oLoc d)) :
    iprop((sLoc d ↦{fullShare} I.sv d) ∗ (tLoc d ↦{fullShare} I.tv d) ∗ (oLoc d ↦{fullShare} f))
      = bigSep Finset.univ fun c : Fin 2 => bigSep Finset.univ fun s : Fin 16 =>
          (iprop(sPts I d (part c s) ∗ tPts I d (part c s) ∗ oPts d (part c s) f) : sProp 𝕄) := by
  rw [← bigSep_tasks (F := F) (fun w => iprop(sPts I d w ∗ tPts I d w ∗ oPts d w f)), bigSep_sep', bigSep_sep', sPts_parts, oPts_parts,
    pointsTo_piecesOf Finset.univ (I.tv d) (o := 32) (by decide) fullShare]

/-- The call's operands, from the arrays whole. -/
theorem st_eq (d : Dev nD) : (bigSep Finset.univ fun c : Fin ((K (F := F)).nCore 0) => (P I).st 0 d c)
    = (iprop((sLoc d ↦{fullShare} I.sv d) ∗ (tLoc d ↦{fullShare} I.tv d) ∗ (oLoc d ↦{fullShare} I.ov d)) : sProp 𝕄) :=
  (whole_eq I d _).symm

/-- The call's results, as the arrays whole: the row numbers and the table as they were, the gathered rows. -/
theorem dn_eq (d : Dev nD) : (bigSep Finset.univ fun c : Fin ((K (F := F)).nCore 0) => (P I).dn 0 d c)
    = (iprop((sLoc d ↦{fullShare} I.sv d) ∗ (tLoc d ↦{fullShare} I.tv d) ∗ (oLoc d ↦{fullShare} I.res d)) : sProp 𝕄) :=
  (whole_eq I d _).symm

/-- A SparseCore hands each tile its task's part and collects them. -/
theorem vecSplit [FloatOps F] : (K (F := F)).VecSplit' (P I) 0 := by
  intro d c
  show (bigSep Finset.univ fun s : Fin 16 => given I d (part (Fin.cast nCore_zero c) s)) ⊢ |={Set.univ}=> iprop(
      (bigSep Finset.univ fun s : Fin 16 => given I d (part (Fin.cast nCore_zero c) s))
      ∗ ((bigSep Finset.univ fun s : Fin 16 => back I d (part (Fin.cast nCore_zero c) s))
          -∗ (bigSep Finset.univ fun s : Fin 16 => back I d (part (Fin.cast nCore_zero c) s))))
  iintro H; imodintro
  isplitl [H]; · iexact H
  iintro H; iexact H

end Cert.KernelIdeal.Unpool

end
-- ==== Proof.KernelIdeal.HostOps.lean ====
/-
  The host operations before the SparseCore call: what they leave in the two arrays the call reads — the row numbers and the table of rows — and that they
  leave the arguments as they were. Every row number they compute names a row of the table.
-/
module

public import proofs.«01_k».proof.Proof.KernelIdeal.Setup
public import proofs.«01_k».proof.Proof.Rows
public import Idealize.ShloMosaic.Lib.WordCmp

@[expose] public section

noncomputable section

namespace Cert.KernelIdeal.Unpool

open Cert.KernelIdeal Cert.KernelIdeal.Gen

open Idealize.ShloMosaic Idealize.ShloMosaic.TcCoe Idealize.ShloMosaic.StableHlo

variable {F : FTy → Type} [FloatOps F]

/-- The operations, in order. -/
abbrev hostOps : List (HloOp τ sig (Elt F)) :=
  [ nullary main_v0 (iotaInDim S2048 32 0),
    nullary main_c (constantI S_ 32 4294967295#32),
    unary main_c main_v1 (broadcastInDim S4096 ![] bcast_S_S4096 : (⟨S_, .i32⟩ : BufTy).Contents (Elt F) → (⟨S4096, .i32⟩ : BufTy).Contents (Elt F)),
    nullary main_c_0 (constantI S_ 32 0#32),
    unary main_c_0 main_v2 (broadcastInDim S2048 ![] bcast_S_S2048 : (⟨S_, .i32⟩ : BufTy).Contents (Elt F) → (⟨S2048, .i32⟩ : BufTy).Contents (Elt F)),
    binary main_arg4 main_v2 main_v3 (cmpi .slt : (⟨S2048, .i32⟩ : BufTy).Contents (Elt F) → (⟨S2048, .i32⟩ : BufTy).Contents (Elt F) → (⟨S2048, .i1⟩ : BufTy).Contents (Elt F)),
    nullary main_c_1 (constantI S_ 32 4096#32),
    unary main_c_1 main_v4 (broadcastInDim S2048 ![] bcast_S_S2048 : (⟨S_, .i32⟩ : BufTy).Contents (Elt F) → (⟨S2048, .i32⟩ : BufTy).Contents (Elt F)),
    binary main_arg4 main_v4 main_v5 (addi : (⟨S2048, .i32⟩ : BufTy).Contents (Elt F) → (⟨S2048, .i32⟩ : BufTy).Contents (Elt F) → (⟨S2048, .i32⟩ : BufTy).Contents (Elt F)),
    ternary main_v3 main_v5 main_arg4 main_v6 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v6 main_v7 (broadcastInDim S2048x1 ![0] bcast_S2048_S2048x1_0 : (⟨S2048, .i32⟩ : BufTy).Contents (Elt F) → (⟨S2048x1, .i32⟩ : BufTy).Contents (Elt F)),
    ternary main_v1 main_v7 main_v0 main_v8 ((fun x i u => Host.scatter scatter_S4096_S2048x1_S2048_n_0_0_1 (fun _ b => b) x i u) : (⟨S4096, .i32⟩ : BufTy).Contents (Elt F) → (⟨S2048x1, .i32⟩ : BufTy).Contents (Elt F) → (⟨S2048, .i32⟩ : BufTy).Contents (Elt F) → (⟨S4096, .i32⟩ : BufTy).Contents (Elt F)),
    nullary main_c_2 (constantI S_ 32 4294967295#32),
    unary main_c_2 main_v9 (broadcastInDim S8192 ![] bcast_S_S8192 : (⟨S_, .i32⟩ : BufTy).Contents (Elt F) → (⟨S8192, .i32⟩ : BufTy).Contents (Elt F)),
    nullary main_c_3 (constantI S_ 32 0#32),
    unary main_c_3 main_v10 (broadcastInDim S4096 ![] bcast_S_S4096 : (⟨S_, .i32⟩ : BufTy).Contents (Elt F) → (⟨S4096, .i32⟩ : BufTy).Contents (Elt F)),
    binary main_arg3 main_v10 main_v11 (cmpi .slt : (⟨S4096, .i32⟩ : BufTy).Contents (Elt F) → (⟨S4096, .i32⟩ : BufTy).Contents (Elt F) → (⟨S4096, .i1⟩ : BufTy).Contents (Elt F)),
    nullary main_c_4 (constantI S_ 32 8192#32),
    unary main_c_4 main_v12 (broadcastInDim S4096 ![] bcast_S_S4096 : (⟨S_, .i32⟩ : BufTy).Contents (Elt F) → (⟨S4096, .i32⟩ : BufTy).Contents (Elt F)),
    binary main_arg3 main_v12 main_v13 (addi : (⟨S4096, .i32⟩ : BufTy).Contents (Elt F) → (⟨S4096, .i32⟩ : BufTy).Contents (Elt F) → (⟨S4096, .i32⟩ : BufTy).Contents (Elt F)),
    ternary main_v11 main_v13 main_arg3 main_v14 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v14 main_v15 (broadcastInDim S4096x1 ![0] bcast_S4096_S4096x1_0 : (⟨S4096, .i32⟩ : BufTy).Contents (Elt F) → (⟨S4096x1, .i32⟩ : BufTy).Contents (Elt F)),
    ternary main_v9 main_v15 main_v8 main_v16 ((fun x i u => Host.scatter scatter_S8192_S4096x1_S4096_n_0_0_1 (fun _ b => b) x i u) : (⟨S8192, .i32⟩ : BufTy).Contents (Elt F) → (⟨S4096x1, .i32⟩ : BufTy).Contents (Elt F) → (⟨S4096, .i32⟩ : BufTy).Contents (Elt F) → (⟨S8192, .i32⟩ : BufTy).Contents (Elt F)),
    nullary main_c_5 (constantI S_ 32 0#32),
    unary main_c_5 main_v17 (broadcastInDim S8192 ![] bcast_S_S8192 : (⟨S_, .i32⟩ : BufTy).Contents (Elt F) → (⟨S8192, .i32⟩ : BufTy).Contents (Elt F)),
    binary main_v16 main_v17 main_v18 (cmpi .sge : (⟨S8192, .i32⟩ : BufTy).Contents (Elt F) → (⟨S8192, .i32⟩ : BufTy).Contents (Elt F) → (⟨S8192, .i1⟩ : BufTy).Contents (Elt F)),
    nullary main_c_6 (constantI S_ 32 2048#32),
    TRef.unary (TRef.of (T := ⟨S_, .i32⟩) main_c_6) (TRef.of (T := ⟨S_, .i32⟩) main_call0_v0) id,
    TRef.unary (TRef.of (T := ⟨S_, .i32⟩) main_call0_v0) (TRef.of (T := ⟨S8192, .i32⟩) main_call0_v1) (broadcastInDim S8192 ![] bcast_S_S8192),
    TRef.ternary (TRef.of (T := ⟨S8192, .i1⟩) main_v18) (TRef.of (T := ⟨S8192, .i32⟩) main_v16) (TRef.of (T := ⟨S8192, .i32⟩) main_call0_v1) (TRef.of (T := ⟨S8192, .i32⟩) main_v19) select,
    nullary main_cst (constant S_ .f32 0x00000000#32),
    unary main_cst main_v20 (broadcastInDim S1x128 ![] bcast_S_S1x128 : (⟨S_, .f32⟩ : BufTy).Contents (Elt F) → (⟨S1x128, .f32⟩ : BufTy).Contents (Elt F)),
    binary main_arg2 main_v20 main_v21 ((fun a b => concatenate S2049x128 0 [⟨S2048x128, a⟩, ⟨S1x128, b⟩] concatenates_S2048x128_S1x128_S2049x128_d0) : (⟨S2048x128, .f32⟩ : BufTy).Contents (Elt F) → (⟨S1x128, .f32⟩ : BufTy).Contents (Elt F) → (⟨S2049x128, .f32⟩ : BufTy).Contents (Elt F)) ]

theorem hostOps_sub : (hostOps : List (HloOp τ sig (Elt F))).Forall fun op => op.bufs ⊆ tcRefs τ sig :=
  ⟨nullary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub ..⟩

theorem hostOps_fresh : ∀ op ∈ (hostOps : List (HloOp τ sig (Elt F))), op.fresh = ∅ := by
  intro _ h; (repeat (cases h with | head => rfl | tail _ h => ?_)); exact nomatch h

/-! ## Their values -/

/-- A row number that may count from the end: below zero, the number of rows is added to it. -/
abbrev wrapped {s : Shape} (n : IVec s 32) (zero size : IVec s 32) : IVec s 32 := select (cmpi .slt n zero) (addi n size) n

/-- For each of 4096 rows, the source row the inner un-pooling puts there, or −1. -/
def innerRow (idx1 : IVec S2048 32) : IVec S4096 32 :=
  Host.scatter scatter_S4096_S2048x1_S2048_n_0_0_1 (fun _ b => b) (broadcastInDim S4096 ![] bcast_S_S4096 (constantI S_ 32 4294967295#32))
    (broadcastInDim S2048x1 ![0] bcast_S2048_S2048x1_0 (wrapped idx1 (broadcastInDim S2048 ![] bcast_S_S2048 (constantI S_ 32 0#32))
      (broadcastInDim S2048 ![] bcast_S_S2048 (constantI S_ 32 4096#32)))) (iotaInDim S2048 32 0)

/-- For each of 8192 rows, the source row the two un-poolings put there, or −1. -/
def outerRow (idx0 : IVec S4096 32) (idx1 : IVec S2048 32) : IVec S8192 32 :=
  Host.scatter scatter_S8192_S4096x1_S4096_n_0_0_1 (fun _ b => b) (broadcastInDim S8192 ![] bcast_S_S8192 (constantI S_ 32 4294967295#32))
    (broadcastInDim S4096x1 ![0] bcast_S4096_S4096x1_0 (wrapped idx0 (broadcastInDim S4096 ![] bcast_S_S4096 (constantI S_ 32 0#32))
      (broadcastInDim S4096 ![] bcast_S_S4096 (constantI S_ 32 8192#32)))) (innerRow idx1)

/-- The row numbers: −1 gives way to 2048, the table's row of zeros. -/
def rowNumbers (idx0 : IVec S4096 32) (idx1 : IVec S2048 32) : IVec S8192 32 :=
  select (cmpi .sge (outerRow idx0 idx1) (broadcastInDim S8192 ![] bcast_S_S8192 (constantI S_ 32 0#32))) (outerRow idx0 idx1)
    (broadcastInDim S8192 ![] bcast_S_S8192 (constantI S_ 32 2048#32))

/-- The table: the 2048 rows and one row of zeros below them. -/
def table (h : Vec F S2048x128 .f32) : Vec F S2049x128 .f32 :=
  concatenate S2049x128 0 [⟨S2048x128, h⟩, ⟨S1x128, broadcastInDim S1x128 ![] bcast_S_S1x128 (constant S_ .f32 0x00000000#32)⟩]
    concatenates_S2048x128_S1x128_S2049x128_d0

variable (W : Valuation τ sig (Elt F))

set_option maxHeartbeats 2000000 in
/-- The row numbers the host operations leave. -/
theorem after_rowNumbers : after hostOps W (Proc.devRef .tc main_v19) = rowNumbers (W (Proc.devRef .tc main_arg3)) (W (Proc.devRef .tc main_arg4)) := by
  unfold rowNumbers outerRow innerRow
  simp only [hostOps, TRef.ternary, TRef.unary, TRef.toBuf, TRef.ofBuf, cast_eq]; after_results_simp <;> rfl

set_option maxHeartbeats 2000000 in
/-- The table they leave. -/
theorem after_table : after hostOps W (Proc.devRef .tc main_v21) = table (W (Proc.devRef .tc main_arg2)) := by
  unfold table
  simp only [hostOps, TRef.ternary, TRef.unary, TRef.toBuf, TRef.ofBuf, cast_eq]; after_results_simp <;> rfl

/-- The buffers the host operations write, in order. -/
abbrev written : List (Ref sig .tc) :=
  [main_v0, main_c, main_v1, main_c_0, main_v2, main_v3, main_c_1, main_v4, main_v5, main_v6, main_v7, main_v8, main_c_2, main_v9, main_c_3, main_v10, main_v11, main_c_4, main_v12, main_v13, main_v14, main_v15, main_v16, main_c_5, main_v17, main_v18, main_c_6, main_call0_v0, main_call0_v1, main_v19, main_cst, main_v20, main_v21]

/-- A buffer they don't write keeps its contents. -/
theorem hostOps_keep {r : Ref sig .tc} (hr : r ∉ written) : after hostOps W (Proc.devRef .tc r) = W (Proc.devRef .tc r) :=
  after_of_writes_sub hostOps W (forall_writes_sub_of_map rfl) hr

/-! ## Every row number names a row of the table -/

theorem rowNumbers_lt (idx0 : IVec S4096 32) (idx1 : IVec S2048 32) (j : S8192.Idx) : (rowNumbers idx0 idx1 j).toNat < 2049 := by
  have inner : ∀ i, innerRow idx1 i = 4294967295#32 ∨ (innerRow idx1 i).toNat < 2048 := fun i =>
    Cert.Unpool.scatter_keeps (fun v : BitVec 32 => v = 4294967295#32 ∨ v.toNat < 2048) _ _ _ _ (fun _ => .inl rfl) (fun k => .inr (by
      show (BitVec.ofNat 32 (k 0).val).toNat < 2048
      have := (k 0).isLt
      change (k 0).val < 2048 at this
      rw [BitVec.toNat_ofNat, Nat.mod_eq_of_lt (by omega)]; exact this)) i
  have outer : outerRow idx0 idx1 j = 4294967295#32 ∨ (outerRow idx0 idx1 j).toNat < 2048 :=
    Cert.Unpool.scatter_keeps (fun v : BitVec 32 => v = 4294967295#32 ∨ v.toNat < 2048) _ _ _ _ (fun _ => .inl rfl) inner j
  show (Scalar.select (IntOp.cmpi .sge (outerRow idx0 idx1 j) 0#32) (outerRow idx0 idx1 j) 2048#32).toNat < 2049
  rcases outer with h | h
  · rw [h]; decide
  · unfold Scalar.select
    split
    · omega
    · decide

end Cert.KernelIdeal.Unpool

end
-- ==== Proof.KernelIdeal.Tile.lean ====
/-
  One task of the SparseCore call: the tile fetches its 256 row numbers, gathers those rows of the table into its
  scratch, and copies them out to its part of the array of gathered rows.
-/
module

public import proofs.«01_k».proof.Proof.KernelIdeal.Setup

@[expose] public section

noncomputable section

namespace Cert.KernelIdeal.Unpool

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A tile's five buffers: the row numbers, the table and the result in HBM, its own row numbers and rows in scratch. -/
abbrev sV : Memref sig .scVector .hbm S8192 .i32 := Memref.whole main_v19_scv
abbrev tV : Memref sig .scVector .hbm S2049x128 .f32 := Memref.whole main_v21_scv
abbrev oV : Memref sig .scVector .hbm S8192x128 .f32 := Memref.whole main_v22_scv
abbrev nV : Memref sig .scVector .vmem S256 .i32 := Memref.whole cc0_scratch0
abbrev rV : Memref sig .scVector .vmem S256x128 .f32 := Memref.whole cc0_scratch1

variable (I : In F) (d : Dev nD) (L : grid0.Coords)

/-! ## Where the task works -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The part the task at grid point `L` works on. -/
abbrev wid (L : grid0.Coords) : Fin 32 := part (Fin.cast bound_zero (L 0)) (Fin.cast bound_one (L 1))

theorem wid_val : (part (Fin.cast bound_zero (L 0)) (Fin.cast bound_one (L 1))).val = 2 * (L 1).val + (L 0).val := rfl

abbrev sRectK (L : grid0.Coords) : Rect S8192 := Rect.unit (s := S8192) (k0_off1 L) S256.size (k0_off1_inb L)
abbrev oRectK (L : grid0.Coords) : Rect S8192x128 := Rect.unit (s := S8192x128) (k0_off2 L) S256x128.size (k0_off2_inb L)
/-- The task's row numbers, all of the table, and the task's rows of the result, as it addresses them. -/
abbrev sRowK (L : grid0.Coords) : Memref sig .scVector .hbm S256 .i32 := (sV).slice (sRectK L) (fun _ => rfl)
abbrev tAllK : Memref sig .scVector .hbm S2049x128 .f32 := (tV).slice (Rect.unit (s := S2049x128) ![0, 0] S2049x128.size inb_S2049x128_S2049x128_0_0) (fun _ => rfl)
abbrev oRowK (L : grid0.Coords) : Memref sig .scVector .hbm S256x128 .f32 := (oV).slice (oRectK L) (fun _ => rfl)

/-- The row numbers the task addresses are its part of them. -/
theorem sRectK_eq : sRectK L = sPart (wid L) := by
  unfold sRectK sPart Rect.part Rect.block
  congr 1 <;> funext a
  · rw [k0_off1_eq]
    match a with
    | 0 => simp [Shape.partIx, Shape.partSize, wid_val]; omega
  · match a with
    | 0 => simp [Shape.partSize]

/-- The rows of the result the task addresses are its part of them. -/
theorem oRectK_eq : oRectK L = oPart (wid L) := by
  unfold oRectK oPart Rect.part Rect.block
  congr 1 <;> funext a
  · rw [k0_off2_eq]
    match a with
    | 0 => simp [Shape.partIx, Shape.partSize, wid_val]; omega
    | 1 => simp [Shape.partIx, Shape.partSize]
  · match a with
    | 0 => simp [Shape.partSize]
    | 1 => simp [Shape.partSize]

theorem set_sRowK : (sRowK L).view.set = (sPart (wid L)).set := by
  show ((View.whole (main_v19_scv : Ref sig .scVector)).slice (sRectK L)).set = _
  rw [View.set_slice, ← sRectK_eq]; exact Finset.map_refl

theorem set_oRowK : (oRowK L).view.set = (oPart (wid L)).set := by
  show ((View.whole (main_v22_scv : Ref sig .scVector)).slice (oRectK L)).set = _
  rw [View.set_slice, ← oRectK_eq]; exact Finset.map_refl

theorem pts_sRowK (f : Buf (Elt F) (sLoc d)) :
    ((sRowK L).view.loc (V d (cV L) (jV L)) ↦[(sRowK L).view.set]{fullShare} f : sProp 𝕄) = sLoc d ↦[(sPart (wid L)).set]{fullShare} f := by
  rw [set_sRowK]
theorem pts_oRowK (f : Buf (Elt F) (oLoc d)) :
    ((oRowK L).view.loc (V d (cV L) (jV L)) ↦[(oRowK L).view.set]{fullShare} f : sProp 𝕄) = oLoc d ↦[(oPart (wid L)).set]{fullShare} f := by
  rw [set_oRowK]
theorem pts_tV (q : PosShare TreeShare) (f : Buf (Elt F) (tLoc d)) :
    ((tV).view.loc (V d (cV L) (jV L)) ↦{q} f : sProp 𝕄) = tLoc d ↦{q} f := rfl
theorem pts_nV (f : Buf (Elt F) ((V d (cV L) (jV L)).loc cc0_scratch0)) :
    ((nV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-! ## What the task leaves in its rows -/

/-- The gather of the task's row numbers out of the table is the task's rows of the gathered rows. -/
theorem gather_eq {V : FTy → Type} (sv : S8192.Idx → BitVec 32) (tv : S2049x128.Idx → Elt V .f32) (offs : S256.Idx → Elt V .i32)
    (hoffs : ∀ k, offs k = sv ((sRectK L).emb k)) (hn : S256.numel = S256x128.size gathers_S2049x128_S256x128.axis')
    (hin : ∀ x, (offs x : BitVec 32).toNat < S2049x128.size gathers_S2049x128_S256x128.axis) (j : S256x128.Idx) :
    SparseCore.gatherPayload gathers_S2049x128_S256x128 tv (SparseCore.rows offs hn hin) j = gathered (V := Elt V) sv tv ((oRectK L).emb j) := by
  unfold SparseCore.gatherPayload gathered
  congr 1; funext a
  match a with
  | 0 =>
    refine Fin.ext ?_
    show (gathers_S2049x128_S256x128.idx (SparseCore.rows offs hn hin) j gathers_S2049x128_S256x128.axis).val = _
    rw [Shape.Gathers.idx_axis]
    show (offs _ : BitVec 32).toNat = min _ 2048
    have hlt := hin (S256.rowMajor.symm (Fin.cast hn.symm (j gathers_S2049x128_S256x128.axis')))
    have hix : (sRectK L).emb (S256.rowMajor.symm (Fin.cast hn.symm (j gathers_S2049x128_S256x128.axis'))) = fun | 0 => (oRectK L).emb j 0 := by
      funext b
      match b with
      | 0 =>
        refine Fin.ext ?_
        have h1 : ((S256.rowMajor.symm (Fin.cast hn.symm (j gathers_S2049x128_S256x128.axis'))) 0).val = (j 0).val := by
          rw [← Shape.rowMajor_val_one, Equiv.apply_symm_apply]; rfl
        show _ = ((oRectK L).emb j 0).val
        simp [Rect.emb_apply, k0_off1_eq, k0_off2_eq]; exact h1
    rw [hoffs, hix] at hlt ⊢
    exact (Nat.min_eq_left (Nat.le_of_lt_succ hlt)).symm
  | 1 =>
    refine Fin.ext ?_
    refine (Shape.Gathers.idx_of_ne _ _ _ _ (by decide)).trans ?_
    show (j 1).val = ((oRectK L).emb j 1).val
    simp [Rect.emb_apply, k0_off2_eq]

/-! ## The task's scratch and its semaphores -/

abbrev cA (d : Dev nD) (c : Fin τ.nSC) (i : Fin τ.nSub) : GSem nD τ sig := (V d c i, .dma cc0_scoped0.sem)
abbrev cB (d : Dev nD) (c : Fin τ.nSC) (i : Fin τ.nSub) : GSem nD τ sig := (V d c i, .dma cc0_scratch2.sem)
abbrev cC (d : Dev nD) (c : Fin τ.nSC) (i : Fin τ.nSub) : GSem nD τ sig := (V d c i, .dma cc0_scoped1.sem)

/-- The three semaphores the task uses are among the tile's own. -/
theorem ownSems0_V :
    (ownSems0 (V d (cV L) (jV L)) : sProp 𝕄)
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scratch2.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped1.sem : SemLoc sig).isScoped .scVector = true; decide⟩⟩⟩)]

/-- The two scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The task's run -/

variable [FloatOps F]

/-- The row numbers the task has fetched are its part of them. -/
theorem fetched_eq (fn : Buf (Elt F) ((V d (cV L) (jV L)).loc cc0_scratch0)) (k : S256.Idx) :
    (nV).view.read (Elt F) (View.write (Elt F) (nV).view fn ((sRowK L).view.read (Elt F) (I.sv d)) Finset.univ) k = I.sv d ((sRectK L).emb k) := by
  rw [View.write_whole_univ]
  simp only [Memref.view_whole, View.read_whole]
  exact (View.read_apply _ _).trans (cast_eq _ _)

/-- So each names a row of the table. -/
theorem fetched_lt (hI : I.Ok) (fn : Buf (Elt F) ((V d (cV L) (jV L)).loc cc0_scratch0)) (pay : S256.Idx → Elt F .i32)
    (hpay : pay = (sRowK L).view.read (Elt F) (I.sv d)) :
    ∀ x, ((nV).view.read (Elt F) (View.write (Elt F) (nV).view fn pay Finset.univ) x).toNat < S2049x128.size gathers_S2049x128_S256x128.axis := by
  subst hpay; intro x
  rw [fetched_eq]
  exact hI d _

/-- All of the table, as the task addresses it, read is the table. -/
theorem read_tAllK : tAllK.view.read (Elt F) (I.tv d) = I.tv d := by
  funext x
  refine (View.read_apply _ _).trans ((cast_eq _ _).trans (congrArg (I.tv d) ?_))
  funext a
  refine Fin.ext ?_
  show (![0, 0] : Fin 2 → ℕ) a + 1 * (x a).val = (x a).val
  match a with
  | 0 => simp
  | 1 => simp

/-- The task's rows of the result, once the gathered rows are copied out to them. -/
theorem pts_out (fo : Buf (Elt F) (oLoc d)) (pay : S256x128.Idx → Elt F .f32) (hpay : ∀ j, pay j = I.res d ((oRectK L).emb j)) :
    ((oRowK L).view.loc (V d (cV L) (jV L)) ↦[(oRowK L).view.set]{fullShare} (oRowK L).view.writes (Elt F) fo [⟨Rect.whole S256x128, pay⟩] : sProp 𝕄)
      = oPts d (wid L) (I.res d) := by
  rw [← View.write_univ_eq_writes_whole, View.writes_nil, pts_oRowK]
  refine pointsTo_congr fun x hx => ?_
  rw [← oRectK_eq, ← Rect.map_emb_univ, Finset.mem_map] at hx
  obtain ⟨j, -, rfl⟩ := hx
  refine (View.write_emb_of_mem (v := (oRowK L).view) (x := j) _ _ (Finset.mem_univ _)).trans ?_
  exact (cast_eq _ _).trans (hpay j)

/-- What the task copies out — its scratch, written with the gather of its fetched row numbers — is its rows of the
    gathered rows. -/
theorem copied_eq (fn : Buf (Elt F) ((V d (cV L) (jV L)).loc cc0_scratch0)) (fr : Buf (Elt F) ((V d (cV L) (jV L)).loc cc0_scratch1))
    (pay : S256.Idx → Elt F .i32) (hpay : pay = (sRowK L).view.read (Elt F) (I.sv d))
    (hn : S256.numel = S256x128.size gathers_S2049x128_S256x128.axis')
    (hin : ∀ x, ((nV).view.read (Elt F) (View.write (Elt F) (nV).view fn pay Finset.univ) x).toNat < S2049x128.size gathers_S2049x128_S256x128.axis)
    (j : S256x128.Idx) :
    (rV).view.read (Elt F) ((rV).view.write (Elt F) fr (SparseCore.gatherPayload gathers_S2049x128_S256x128 (tAllK.view.read (Elt F) (I.tv d))
        (SparseCore.rows ((nV).view.read (Elt F) (View.write (Elt F) (nV).view fn pay Finset.univ)) hn hin)) Finset.univ) j
      = I.res d ((oRectK L).emb j) := by
  subst hpay
  rw [View.read_write_univ, read_tAllK]
  exact gather_eq L (I.sv d) (I.tv d) _ (fetched_eq I d L fn) hn hin j

set_option maxHeartbeats 4000000 in
/-- The task at grid point `L` of device `d`: from its part of the row numbers, its share of the table and its part of
    the result at whatever it holds, the fetch, the gather and the copy out leave its part of the gathered rows. -/
theorem tile_body (hF : (K (F := F)).Facts) (hI : I.Ok) (O : CellTallies nD τ sig (HIx 1)) (W : Waits sig (HIx 1)) (hO : ∀ g, O g none = 0) :
    iprop(levAts (K (F := F)).L (K (F := F)).lev ∗ emp ∗ given I d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_rows L sV (Memref.isWhole_whole _) tV (Memref.isWhole_whole _) oV (Memref.isWhole_whole _)
            nV (Memref.isWhole_whole _) rV (Memref.isWhole_whole _) cc0_scratch2 cc0_scoped0 cc0_scoped1)
          fun _ => iprop(back I d (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_rows_eq_skeleton]; unfold cc0_gather_rows_skel
  rw [(K (F := F)).scopedBufs_V hF d (cV L) (jV L), SparseCore.Cfg.scopedSems0_V (Val := Elt F) d (cV L) (jV L), ownSems0_V, ownBufs_V]
  iintro ⟨#Hlv, -, ⟨Hs, Ht, Ho⟩, ⟨⟨%fn, Hn⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hs' := (Entails.of_eq (pts_sRowK (F := F) d L _).symm) $$ Hs
  ihave Ho' := (Entails.of_eq (pts_oRowK (F := F) d L _).symm) $$ Ho
  ihave Ht' := (Entails.of_eq (pts_tV (F := F) d L _ _).symm) $$ Ht
  ihave Hn' := (Entails.of_eq (pts_nV (F := F) d L _).symm) $$ Hn
  ihave Hr' := (Entails.of_eq (pts_rV (F := F) d L _).symm) $$ Hr
  sl_exec
  -- the gather takes the table's slice, the row scratch, the fetched list whole and the semaphore at zero
  ihave Hts := (pointsTo_split_subset (q := tq (wid L)) (f := I.tv d) (S := Finset.univ) (Finset.subset_univ (tAllK).view.set)).1 $$ Ht'
  icases Hts with ⟨Hts, Htr⟩
  have hrs : (rV).view.set = Finset.univ := View.set_whole _
  have hns : (nV).view.set = Finset.univ := View.set_whole _
  ihave Hr2 := (Entails.of_eq (show ((rV).view.loc (V d (cV L) (jV L)) ↦{fullShare} fr : sProp 𝕄)
      = (rV).view.loc (V d (cV L) (jV L)) ↦[(rV).view.set]{fullShare} fr by rw [hrs])) $$ Hr'
  ihave Hn2 := (Entails.of_eq (show ((nV).view.loc (V d (cV L) (jV L)) ↦{fullShare} View.write (Elt F) (nV).view fn (tile_body.sl.dma0 I d L) Finset.univ : sProp 𝕄)
      = (nV).view.loc (V d (cV L) (jV L)) ↦[(nV).view.set]{fullShare} View.write (Elt F) (nV).view fn (tile_body.sl.dma0 I d L) Finset.univ
      by rw [hns])) $$ Hn'
  have hN : ∀ h : S2049x128.Gathers 0 S256x128, ∑ j, ((rV).slice (S256x128.rowRect h.axis' j) (S256x128.stride_rowRect h.axis' j)).view.dmaCredit
      = (rV).view.dmaCredit := by decide
  iapply (SparseCore.wp_indirectGatherLocal countersEmb 𝒱₀ (V d (cV L) (jV L)) none (hg := gathers_S2049x128_S256x128) (default : HIx 1)
      (rV).view.dmaCredit (hN _) (by decide) (fetched_lt I d L hI fn _ rfl)) $$ [Hts Hr2 Hn2 HsemB]
  · isplitl [Hts]; · iexact Hts
    isplitl [Hr2]; · iexact Hr2
    isplitl [Hn2]; · iexact Hn2
    iexact HsemB
  iintro Hfl
  sl_exec
  -- its wait: the row scratch holds the gathered rows, the table's share and the list are back
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr3, Hts, Hn3⟩, HsemB, HO⟩
  ihave Ht' := (pointsTo_split_subset (q := tq (wid L)) (f := I.tv d) (S := Finset.univ) (Finset.subset_univ (tAllK).view.set)).2 $$ [Hts Htr]; · isplitl [Hts] <;> iassumption
  ihave Hr4 := (Entails.of_eq (show ((rV).view.loc (V d (cV L) (jV L)) ↦[(rV).view.set]{fullShare} _ : sProp 𝕄)
      = (rV).view.loc (V d (cV L) (jV L)) ↦{fullShare} _ by rw [hrs])) $$ Hr3
  ihave Hn4 := (Entails.of_eq (show ((nV).view.loc (V d (cV L) (jV L)) ↦[(nV).view.set]{fullShare} _ : sProp 𝕄)
      = (nV).view.loc (V d (cV L) (jV L)) ↦{fullShare} _ by rw [hns])) $$ Hn3
  sl_exec
  sl_step
  isplitl [Hs' Ht' Ho']
  · isplitl [Hs']; · iapply (Entails.of_eq (pts_sRowK (F := F) d L _)); iexact Hs'
    isplitl [Ht']; · iexact Ht'
    iapply (Entails.of_eq (pts_out I d L (I.ov d) (tile_body.sl.dma0_1 I d L hI fn fr) (copied_eq I d L fn fr _ rfl _ _))); iexact Ho'
  isplitl [Hn4 Hr4 Hbufs]
  · isplitl [Hn4]; · iexists _; iexact Hn4
    isplitl [Hr4]; · iexists _; iexact Hr4
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The grid point of core `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's row of the body table is the task at its grid point. -/
theorem defs₀_vector (c : Fin τ.nSC) (s : Fin τ.nSub) :
    defs₀ (F := F) (.scVector c s) 0 ()
      = SparseCore.onTile hcore0 hsub0 (fun c s => cc0_gather_rows (coordsV c s)
          sV (Memref.isWhole_whole _) tV (Memref.isWhole_whole _) oV (Memref.isWhole_whole _)
          nV (Memref.isWhole_whole _) rV (Memref.isWhole_whole _) cc0_scratch2 cc0_scoped0 cc0_scoped1) ⟨⟩ c s := rfl

/-- A task's waits, none of them a handshake's, are among those its call allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call does its task. -/
theorem tileObl (hF : (K (F := F)).Facts) (hI : I.Ok) : (K (F := F)).TileObl (D (F := F)) 𝒱 (P I) v₀ 0 := by
  intro d c i O W hO _ _
  simp only [show (P I).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body I d (coordsV ⟨_, hci.1⟩ ⟨_, hci.2⟩) hF hI O W hO).trans (wp_mono frame _ _ fun _ => obl_post)

end Cert.KernelIdeal.Unpool

end
-- ==== Proof.KernelIdeal.Region.lean ====
/-
  The TensorCore call: what one grid point's body leaves in the output's staging buffer, and the call as one step of the
  host program, from the five arrays it names to the same arrays with the output rewritten.
-/
module

public import proofs.«01_k».proof.Proof.KernelIdeal.Setup
public import proofs.«01_k».proof.Proof.Gen.KernelIdeal.Points
public import Idealize.ShloMosaic.Lib.Pipeline.FrameBody
public import Idealize.ShloMosaic.Lib.Pipeline.RegionArrays
public import Idealize.ShloMosaic.Lib.WordCmp

@[expose] public section

set_option maxRecDepth 16384

noncomputable section

namespace Cert.KernelIdeal.Unpool

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-! ## One grid point's body -/

/-- What the body stores, from the four blocks it loads. -/
def stored (x0 : Vec F S256x8192 .f32) (x1 : Vec F S8192x128 .f32) (x2 : Vec F S128x128 .f32) (x3 : Vec F S1x128 .f32) :
    Vec F S256x128 .f32 :=
  View.canon [⟨Rect.unit (s := S256x128) ![0, 0] S256x128.size inb_S256x128_S256x128_0_0,
    k1_pay1 (View.ld x0 (Rect.unit (s := S256x8192) ![0, 0] S256x8192.size inb_S256x8192_S256x8192_0_0))
      (View.ld x1 (Rect.unit (s := S8192x128) ![0, 0] S8192x128.size inb_S8192x128_S8192x128_0_0))
      (View.ld x2 (Rect.unit (s := S128x128) ![0, 0] S128x128.size inb_S128x128_S128x128_0_0))
      (View.ld x3 (Rect.unit (s := S1x128) ![0, 0] S1x128.size inb_S1x128_S1x128_0_0))⟩]

set_option maxHeartbeats 1000000 in
/-- The body on whole buffers: the four inputs come back as they were, the output holds `stored` of them. -/
theorem body_wp (c : Dev nD) (i : grid1.Coords)
    (a1 : Memref sig .tc .vmem S256x8192 .f32) (h1 : a1.IsWhole) (a2 : Memref sig .tc .vmem S8192x128 .f32) (h2 : a2.IsWhole)
    (a3 : Memref sig .tc .vmem S128x128 .f32) (h3 : a3.IsWhole) (a4 : Memref sig .tc .vmem S1x128 .f32) (h4 : a4.IsWhole)
    (a5 : Memref sig .tc .vmem S256x128 .f32) (h5 : a5.IsWhole)
    (x0 : Vec F S256x8192 .f32) (x1 : Vec F S8192x128 .f32) (x2 : Vec F S128x128 .f32) (x3 : Vec F S1x128 .f32)
    (Q : PUnit → sProp 𝕄) :
    iprop((owns (T c) a1 fullShare x0 ∗ owns (T c) a2 fullShare x1 ∗ owns (T c) a3 fullShare x2
          ∗ owns (T c) a4 fullShare x3 ∗ (∃ d, owns (T c) a5 fullShare d))
        ∗ (iprop(owns (T c) a1 fullShare x0 ∗ owns (T c) a2 fullShare x1 ∗ owns (T c) a3 fullShare x2
            ∗ owns (T c) a4 fullShare x3 ∗ owns (T c) a5 fullShare (stored x0 x1 x2 x3)) -∗ Q ⟨⟩))
      ⊢ wp frame (wpE (defs₀ (F := F)) Variants.none (T c) none) Set.univ (cc1__mm_body i a1 h1 a2 h2 a3 h3 a4 h4 a5 h5) Q := by
  simp only [cc1__mm_body_eq_skeleton]; unfold cc1__mm_body_skel
  unfold owns
  iintro ⟨⟨⟨%f0, %e0, H0⟩, ⟨%f1, %e1, H1⟩, ⟨%f2, %e2, H2⟩, ⟨%f3, %e3, H3⟩, ⟨%d4, %f4, -, H4⟩⟩, HQ⟩
  subst e0 e1 e2 e3
  sl_exec
  sl_step
  iapply HQ
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ fun y => View.cover_of_tiled [⟨_, _⟩] S256x128.size (by rfl) y

/-! ## The staging pipeline's data, over the arrays' contents when the call is reached -/

variable (Wc : Dev nD → Valuation τ sig (Elt F))

/-- The block of window `w`'s array that grid point `t` stages. -/
def blockAt (c : Dev nD) (w : Fin cfg1.W) (t : Fin cfg1.N) :
    ((cfg1.win w).xblock (cfg1.grid.coords t)).Idx → Elt F (cfg1.win w).elt :=
  ((cfg1.win w).blk t).view.read (Elt F) (Wc c (Proc.devRef .tc (Pipeline.arrRef spec1 w)))

/-- The pipeline's data: the arrays at the valuation, each input's buffer left at its block, the output's at what the
    body stores, nothing owed, and the waits recorded so far below the call's level. -/
def dat (c : Dev nD) : Dat τ (Elt F) (HIx 1) ℕ UU ℕ cfg1 c where
  A w := Wc c (Proc.devRef .tc (Pipeline.arrRef spec1 w))
  after w t := match w with
    | ⟨0, _⟩ => blockAt Wc c 0 t
    | ⟨1, _⟩ => blockAt Wc c 1 t
    | ⟨2, _⟩ => blockAt Wc c 2 t
    | ⟨3, _⟩ => blockAt Wc c 3 t
    | ⟨4, _⟩ => stored (blockAt Wc c 0 t) (blockAt Wc c 1 t) (blockAt Wc c 2 t) (blockAt Wc c 3 t)
  Φ _ := BI.emp
  q _ := fullShare
  owed _ := 0
  recorded _ := {p | (K (F := F)).lev (T c, p.1) p.2 ≤ 8}

theorem dat_A (c : Dev nD) (w : Fin cfg1.W) : (dat Wc c).A w = Wc c (Proc.devRef .tc (Pipeline.arrRef spec1 w)) := by
  dsimp only [dat]

theorem after_out (c : Dev nD) (t : Fin cfg1.N) : (dat Wc c).after 4 t
    = stored (blockAt Wc c 0 t) (blockAt Wc c 1 t) (blockAt Wc c 2 t) (blockAt Wc c 3 t) := by dsimp only [dat]

section Before

variable (c : Dev nD) (t : Fin cfg1.N)

/-- Input 0's staging buffer holds its block before the body, fetched at this point or an earlier one. -/
theorem before_0 (d) : (dat Wc c).before 0 t d = blockAt Wc c 0 t :=
  ((dat Wc c).before_in_eq_fetched 0 rfl (fun _ => rfl) (fun _ _ _ => rfl)
    (fun t => by rw [show (dat Wc c).after 0 t = blockAt Wc c 0 t by dsimp only [dat]]; unfold Dat.blockOf blockAt; rw [dat_A]; try rfl) t d).trans
    (by unfold Dat.fetched Dat.blockOf blockAt; rw [dat_A]; try rfl)
/-- Input 1's staging buffer holds its block before the body, fetched at this point or an earlier one. -/
theorem before_1 (d) : (dat Wc c).before 1 t d = blockAt Wc c 1 t :=
  ((dat Wc c).before_in_eq_fetched 1 rfl (fun _ => rfl) (fun _ _ _ => rfl)
    (fun t => by rw [show (dat Wc c).after 1 t = blockAt Wc c 1 t by dsimp only [dat]]; unfold Dat.blockOf blockAt; rw [dat_A]; try rfl) t d).trans
    (by unfold Dat.fetched Dat.blockOf blockAt; rw [dat_A]; try rfl)
/-- Input 2's staging buffer holds its block before the body, fetched at this point or an earlier one. -/
theorem before_2 (d) : (dat Wc c).before 2 t d = blockAt Wc c 2 t :=
  ((dat Wc c).before_in_eq_fetched 2 rfl (fun _ => rfl) (fun _ _ _ => rfl)
    (fun t => by rw [show (dat Wc c).after 2 t = blockAt Wc c 2 t by dsimp only [dat]]; unfold Dat.blockOf blockAt; rw [dat_A]; try rfl) t d).trans
    (by unfold Dat.fetched Dat.blockOf blockAt; rw [dat_A]; try rfl)
/-- Input 3's staging buffer holds its block before the body, fetched at this point or an earlier one. -/
theorem before_3 (d) : (dat Wc c).before 3 t d = blockAt Wc c 3 t :=
  ((dat Wc c).before_in_eq_fetched 3 rfl (fun _ => rfl) (fun _ _ _ => rfl)
    (fun t => by rw [show (dat Wc c).after 3 t = blockAt Wc c 3 t by dsimp only [dat]]; unfold Dat.blockOf blockAt; rw [dat_A]; try rfl) t d).trans
    (by unfold Dat.fetched Dat.blockOf blockAt; rw [dat_A]; try rfl)

end Before

/-- The body at a grid point, from the invariant, what the core owes and the five staging buffers, to the same at the
    next point. -/
theorem body_at (c : Dev nD) (t : Fin cfg1.N) :
    iprop((dat Wc c).Φ t.castSucc ∗ (dat Wc c).owesAt none t.castSucc
      ∗ (∃ d, owns (T c) (st1_0 t) fullShare ((dat Wc c).before 0 t d))
      ∗ (∃ d, owns (T c) (st1_1 t) fullShare ((dat Wc c).before 1 t d))
      ∗ (∃ d, owns (T c) (st1_2 t) fullShare ((dat Wc c).before 2 t d))
      ∗ (∃ d, owns (T c) (st1_3 t) fullShare ((dat Wc c).before 3 t d))
      ∗ (∃ d, owns (T c) (st1_4 t) fullShare ((dat Wc c).before 4 t d)))
    ⊢ wp frame (wpE (defs₀ (F := F)) Variants.none (T c) none) Set.univ (bodyAt1 t) fun _ =>
      iprop((dat Wc c).Φ t.succ ∗ (dat Wc c).owesAt none t.succ
        ∗ owns (T c) (st1_0 t) fullShare ((dat Wc c).after 0 t) ∗ owns (T c) (st1_1 t) fullShare ((dat Wc c).after 1 t)
        ∗ owns (T c) (st1_2 t) fullShare ((dat Wc c).after 2 t) ∗ owns (T c) (st1_3 t) fullShare ((dat Wc c).after 3 t)
        ∗ owns (T c) (st1_4 t) fullShare ((dat Wc c).after 4 t)) := by
  simp only [before_0, before_1, before_2, before_3]
  rw [show (dat Wc c).Φ t.succ = (dat Wc c).Φ t.castSucc from rfl,
    show (dat Wc c).owesAt none t.succ = (dat Wc c).owesAt none t.castSucc from rfl, after_out,
    show (dat Wc c).after 0 t = blockAt Wc c 0 t by dsimp only [dat], show (dat Wc c).after 1 t = blockAt Wc c 1 t by dsimp only [dat],
    show (dat Wc c).after 2 t = blockAt Wc c 2 t by dsimp only [dat], show (dat Wc c).after 3 t = blockAt Wc c 3 t by dsimp only [dat]]
  unfold bodyAt1
  iintro ⟨HI, HO, ⟨%_, H0⟩, ⟨%_, H1⟩, ⟨%_, H2⟩, ⟨%_, H3⟩, ⟨%d4, H4⟩⟩
  iapply (body_wp c (grid1.coords t) _ _ _ _ _ _ _ _ _ _ (blockAt Wc c 0 t) (blockAt Wc c 1 t) (blockAt Wc c 2 t) (blockAt Wc c 3 t) _)
  isplitl [H0 H1 H2 H3 H4]
  · isplitl [H0]; · iexact H0
    isplitl [H1]; · iexact H1
    isplitl [H2]; · iexact H2
    isplitl [H3]; · iexact H3
    iexists _; iexact H4
  iintro H
  isplitl [HI]; · iexact HI
  isplitl [HO]; · iexact HO
  iexact H

/-- The body table's row at a point's slots is the body on that point's staging buffers. -/
theorem defs₀_tc (t : Fin cfg1.N) : defs₀ (F := F) .tc cfg1.body (cfg1.bodyArgs t (cfg1.slots t)) = bodyAt1 t := rfl

/-- Every grid point's body meets the pipeline's data. -/
theorem body_obligation (c : Dev nD) : BodyObligation (dat Wc c) (defs₀ (F := F)) 𝒱₀ none Set.univ := fun t => by
  rw [bigSep_W1, bigSep_W1, defs₀_tc]
  exact triple_restated (body_at Wc c t) rfl .rfl fun _ => .rfl

/-! ## The call as one step of the host program -/

abbrev adm : (p : Fin 1) → (pcfgs (F := F) p).Adm := fun p => (cfgs p).toPCfg_adm
abbrev pdats : (p : Fin 1) → (c : Dev nD) → Dat τ (Elt F) (HIx 1) ℕ UU ℕ (Pipeline.pin (pcfgs (F := F)) adm p) c :=
  fun | 0 => dat Wc

/-- The arrays' contents when the call is left: the output's as its blocks were written back, the rest as they were. -/
def leave (c : Dev nD) : Valuation τ sig (Elt F) :=
  Function.update (Wc c) (Proc.devRef .tc main_v24) ((dat Wc c).arrAt 4 cfg1.N)

theorem leave_out (c : Dev nD) : leave Wc c (Proc.devRef .tc main_v24) = (dat Wc c).arrAt 4 cfg1.N := Function.update_self ..
theorem leave_ne (c : Dev nD) {b : DevRef τ sig} (h : b ≠ Proc.devRef .tc main_v24) : leave Wc c b = Wc c b :=
  Function.update_of_ne h ..

/-- Each window's array ends at `leave`. -/
theorem arrAt_leave (c : Dev nD) (w : Fin cfg1.W) :
    (dat Wc c).arrAt w cfg1.N = leave Wc c (Proc.devRef .tc (Pipeline.arrRef spec1 w)) := by
  have hin : ∀ w : Fin 5, (cfg1.win w).isOut = false → Proc.devRef .tc (Pipeline.arrRef spec1 w) ≠ (Proc.devRef .tc main_v24 : DevRef τ sig) →
      (dat Wc c).arrAt w cfg1.N = leave Wc c (Proc.devRef .tc (Pipeline.arrRef spec1 w)) := fun w h hne =>
    ((dat Wc c).arrAt_in w h _).trans ((dat_A Wc c w).trans (leave_ne Wc c hne).symm)
  match w with
  | ⟨0, _⟩ => exact hin 0 rfl (StableHlo.devRef_ne_of_ne (by decide))
  | ⟨1, _⟩ => exact hin 1 rfl (StableHlo.devRef_ne_of_ne (by decide))
  | ⟨2, _⟩ => exact hin 2 rfl (StableHlo.devRef_ne_of_ne (by decide))
  | ⟨3, _⟩ => exact hin 3 rfl (StableHlo.devRef_ne_of_ne (by decide))
  | ⟨4, _⟩ => exact (leave_out Wc c).symm

/-- The five arrays the call names. -/
abbrev callRefs : Finset (DevRef τ sig) := Pipeline.arrRefs spec1

/-- What the TensorCore owes and has waited on: nothing owed, every wait below the call's level. -/
abbrev settled (c : Dev nD) : sProp 𝕄 := iprop(∃ W, ⌜(K (F := F)).WBelow (T c) W 8⌝ ∗ owes (T c) 0 W)

theorem share_full (c : Dev nD) (w) : (dat Wc c).share w = fullShare := (dat Wc c).share_full (fun _ => rfl) w

/-- The call: from its arrays at the valuation to its arrays at `leave`. -/
def region : Pipeline.RegionSeg (pcfgs (F := F)) adm (pdats Wc) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation Wc c).loose
  hwaits c := Pipeline.cellsWaits_of_cut (Pipeline.pin pcfgs adm) (pdats Wc) none 0 c 0 0 (fun _ => rfl) (fun _ _ => Finset.mem_univ _)
    (fun _ _ => le_refl 0) fun _ _ h => absurd h (lt_irrefl _)
  pre c := iprop(StableHlo.held (T c) callRefs (Wc c) ∗ settled c)
  post c := iprop(StableHlo.held (T c) callRefs (leave Wc c) ∗ settled c)
  X _ := BI.emp
  Y _ := BI.emp
  Z _ := BI.emp
  hentry c := by
    rw [Pipeline.ownSems0_none, Pipeline.prefHeld_of_none _ rfl,
      ← Pipeline.arrays_held pcfgs adm (pdats Wc) 0 launch1.toP c (share_full Wc c) ((dat Wc c).arrAt · 0) (Wc c) fun w => dat_A Wc c w]
    iintro ⟨⟨Ha, ⟨%W, %hW, HO⟩⟩, -, -⟩
    imodintro
    isplitl [Ha]; · iexact Ha
    isplitr; · iempintro
    isplitl [HO]
    · unfold Dat.owesAt Pipeline.owesWithin Dat.bound
      iexists W; isplitr; · ipureintro; exact fun p hp => Or.inl (hW p hp)
      iexact HO
    isplitr <;> iempintro
  hin c := by
    iintro -; iempintro
  hout c := by
    rw [Pipeline.ownSems0_none, show (Pipeline.scopedRest (Pipeline.pin (pcfgs (F := F)) adm 0).spec c : sProp 𝕄) = BI.emp from scopedRest1_eq c]
    iintro -
    isplitr; · iempintro
    isplitr <;> iempintro
  hexit c := by
    rw [Pipeline.arrays_held pcfgs adm (pdats Wc) 0 launch1.toP c (share_full Wc c) ((dat Wc c).arrAt · cfg1.N) (leave Wc c) (arrAt_leave Wc c)]
    iintro ⟨Ha, HO, -, -⟩
    imodintro
    isplitl [Ha]; · iexact Ha
    unfold Dat.owesAt Pipeline.owesWithin Dat.bound
    icases HO with ⟨%W, %hW, HO⟩; iexists W; isplitr
    · ipureintro; intro p hp
      rcases hW hp with h | ⟨w, s, rfl⟩
      · exact h
      · exact Nat.zero_le _
    iexact HO

/-- The call under the launch's body table: from the boundary, its arrays, the settled core, the level facts and the
    pipeline's ghost state, it runs to the boundary, the arrays at `leave` and the settled core. -/
theorem call_wp (c : Dev nD) (Q : PUnit.{1} → sProp 𝕄) :
    iprop((iprop(boundary (T c) ∗ iprop(StableHlo.held (T c) callRefs (leave Wc c) ∗ settled c)) -∗ Q ⟨⟩)
      ∗ boundary (T c) ∗ iprop(StableHlo.held (T c) callRefs (Wc c) ∗ settled c) ∗ levAts (K (F := F)).L (K (F := F)).lev
      ∗ Pipeline.cellsGhost (Pipeline.pin (pcfgs (F := F)) adm) EP 0 c ∗ Pipeline.toksInit (Pipeline.pin (pcfgs (F := F)) adm) EP 0 c)
    ⊢ wp frame (wpE ((K (F := F)).defs (D (F := F))) 𝒱 (T c) none) Set.univ
        (Prog.lift (.customCall (SparseCore.inner (Pipeline.entry 0)) ())) Q := by
  have h := Pipeline.RegionSeg.wp pcfgs adm (pdats Wc) none (launch1.toP.cellOf_inj adm) EP defs₀ 𝒱₀ (K (F := F)).L (K (F := F)).lev
    (region Wc) c none (by nofun) .ret Q
  rw [wp_ret, show (region Wc).pre c = iprop(StableHlo.held (T c) callRefs (Wc c) ∗ settled c) from rfl,
    show (region Wc).post c = iprop(StableHlo.held (T c) callRefs (leave Wc c) ∗ settled c) from rfl] at h
  refine (show _ ⊢ _ from ?_).trans (h.trans ((K (F := F)).wp_liftProg D 𝒱 (T c) Set.univ none (Prog.lift (.customCall (Pipeline.entry 0) ())) Q))
  iintro ⟨HQ, H⟩
  isplitl [HQ]
  · iintro H
    imodintro
    iapply HQ $$ H
  iexact H

end Cert.KernelIdeal.Unpool

end
-- ==== Proof.KernelIdeal.Main.lean ====
/-
  The program's run: what the arrays hold after the host operations, after the SparseCore call, after the reshape and after the TensorCore call; the launch's
  ghost state; the host program on a TensorCore; and that every run ends with each unscoped buffer at the last of these contents and every counter at zero.
-/
module

public import proofs.«01_k».proof.Proof.KernelIdeal.HostOps
public import proofs.«01_k».proof.Proof.KernelIdeal.Tile
public import proofs.«01_k».proof.Proof.KernelIdeal.Region
public import Idealize.ShloMosaic.Lib.Pipeline.Frame
public import Idealize.ShloMosaic.Lib.Pipeline.FrameTail

@[expose] public section

set_option maxRecDepth 16384

noncomputable section

namespace Cert.KernelIdeal.Unpool

open Cert.KernelIdeal Cert.KernelIdeal.Gen

open Idealize.ShloMosaic Idealize.ShloMosaic.TcCoe
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (ucRefs)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The arrays' contents, stage by stage -/

section Gather

variable (Wg : Dev nD → Valuation τ sig (Elt F))

/-- The three arrays the SparseCore call moves, from the arrays' contents when it is made. -/
def operands : In F where
  sv d := Wg d (Proc.devRef .tc main_v19)
  tv d := Wg d (Proc.devRef .tc main_v21)
  ov d := Wg d (Proc.devRef .tc main_v22)

/-- Row numbers the host operations computed name rows of the table. -/
theorem operands_ok (h : ∀ d, ∃ idx0 idx1, Wg d (Proc.devRef .tc main_v19) = rowNumbers idx0 idx1) : (operands Wg).Ok := fun d j => by
  obtain ⟨idx0, idx1, e⟩ := h d
  have hlt := rowNumbers_lt idx0 idx1 j
  rw [← e] at hlt
  exact hlt

/-- The arrays' contents when the SparseCore call has returned. -/
def gatheredAt (d : Dev nD) : Valuation τ sig (Elt F) := Function.update (Wg d) (Proc.devRef .tc main_v22) ((operands Wg).res d)

end Gather

/-- The one host operation between the two calls: the bias as a row. -/
abbrev rowOp : HloOp τ sig (Elt F) := StableHlo.reshape main_arg6 main_v23 rfl shapeCasts_S128_S1x128

/-- The arrays' contents when the SparseCore call is made. -/
def atGather (d : Dev nD) : Valuation τ sig (Elt F) := StableHlo.after hostOps fun b => m (d, b)
/-- When the TensorCore call is made. -/
def atCall (d : Dev nD) : Valuation τ sig (Elt F) := StableHlo.after [rowOp] (gatheredAt (atGather m) d)
/-- When the host program returns. -/
def atEnd (d : Dev nD) : Valuation τ sig (Elt F) := leave (atCall m) d

/-- Nothing between the two calls but the bias's row is written. -/
theorem atCall_keep (d : Dev nD) {r : Ref sig .tc} (h : r ≠ main_v23) : atCall m d (Proc.devRef .tc r) = gatheredAt (atGather m) d (Proc.devRef .tc r) :=
  StableHlo.after_of_writes_sub (W := [main_v23]) [rowOp] _ (StableHlo.forall_writes_sub_of_map rfl) (by simpa using h)

/-- An array that neither call nor a host operation writes ends as it was at the launch. -/
theorem atEnd_keep (d : Dev nD) {r : Ref sig .tc} (h24 : r ≠ main_v24) (h23 : r ≠ main_v23) (h22 : r ≠ main_v22) (h : r ∉ written) :
    atEnd m d (Proc.devRef .tc r) = m (d, Proc.devRef .tc r) := by
  unfold atEnd
  rw [leave_ne _ _ (StableHlo.devRef_ne_of_ne h24), atCall_keep m d h23]
  unfold gatheredAt
  rw [Function.update_of_ne (StableHlo.devRef_ne_of_ne h22)]
  exact hostOps_keep _ h

/-- The arguments. -/
abbrev arguments : List (Ref sig .tc) := [main_arg0, main_arg1, main_arg2, main_arg3, main_arg4, main_arg5, main_arg6]

theorem arguments_kept : ∀ r ∈ arguments, r.isScoped = false ∧ r ≠ main_v24 ∧ r ≠ main_v23 ∧ r ≠ main_v22 ∧ r ∉ written := by decide

/-! ## The launch's ghost state -/

/-- The launch element: the handshakes' rounds and the staging pipeline's. -/
def u₀ : UU :=
  (initOf (K (F := F)).hsCells (K (F := F)).hsToks,
    (initOf (Pipeline.cells (Pipeline.pin (pcfgs (F := F)) adm) (launch1.toP.cellOf_inj adm))
      (Pipeline.launchToks (Pipeline.pin (pcfgs (F := F)) adm) (launch1.toP.cellOf_inj adm)), 1))

/-- What a TensorCore gets of it for the call: the staging pipeline's cells and tokens. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The launch element deals out to the handshakes' rounds and to each TensorCore; the tasks need none. -/
theorem hu₀ (I : In F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P I).x q thr) := by
  have hx : (bigSep Finset.univ fun thr : Thread nD τ => bigSep Finset.univ fun q : Fin 1 => (P I).x q thr) = (iprop(emp) : sProp 𝕄) :=
    (bigSep_congr fun _ _ => bigSep_univ_of_subsingleton (0 : Fin 1)).trans (bigSep_emp_const _)
  have hpipe : (BI.own (embR (initOf (Pipeline.cells (Pipeline.pin (pcfgs (F := F)) adm) (launch1.toP.cellOf_inj adm))
        (Pipeline.launchToks (Pipeline.pin (pcfgs (F := F)) adm) (launch1.toP.cellOf_inj adm)), (1 : Counters))) : sProp 𝕄)
      ⊢ |==> bigSep Finset.univ fun d : Dev nD => G d := by
    refine (Pipeline.fund_ghost (Pipeline.pin (pcfgs (F := F)) adm) EP (launch1.toP.cellOf_inj adm)).trans (bupd_mono ?_)
    rw [bigSep_sep']
    exact sep_mono (bigSep_mono fun d _ => Entails.of_eq (bigSep_univ_of_subsingleton (0 : Fin 1)))
      (bigSep_mono fun d _ => Entails.of_eq (bigSep_univ_of_subsingleton (0 : Fin 1)))
  unfold u₀
  iintro Hu
  ihave H := (ownU_pair (initOf (K (F := F)).hsCells (K (F := F)).hsToks) (initOf (Pipeline.cells (Pipeline.pin (pcfgs (F := F)) adm) (launch1.toP.cellOf_inj adm))
      (Pipeline.launchToks (Pipeline.pin (pcfgs (F := F)) adm) (launch1.toP.cellOf_inj adm)), (1 : Counters))) $$ Hu
  icases H with ⟨HH, HR⟩
  imod hpipe $$ HR with HG
  imodintro
  rw [hx]
  isplitl [HH]; · iexact HH
  isplitl [HG]; · iexact HG
  iempintro

/-! ## The host program -/

/-- The arrays the SparseCore call moves. -/
abbrev gatherRefs : Finset (DevRef τ sig) := {Proc.devRef .tc main_v19, Proc.devRef .tc main_v21, Proc.devRef .tc main_v22}

theorem gatherRefs_sub : gatherRefs ⊆ ucRefs τ sig := by
  intro b hb
  simp only [gatherRefs, Finset.mem_insert, Finset.mem_singleton] at hb
  rcases hb with rfl | rfl | rfl <;> exact Pipeline.devRef_mem_ucRefs rfl

theorem callRefs_sub : callRefs ⊆ ucRefs τ sig := Pipeline.arrRefs_sub_ucRefs spec1 (by decide)

/-- Those arrays held, one by one. -/
theorem gatherRefs_held (d : Dev nD) (W : Valuation τ sig (Elt F)) : (StableHlo.held (SparseCore.T d) gatherRefs W : sProp 𝕄)
    = iprop((sLoc d ↦{fullShare} W (Proc.devRef .tc main_v19)) ∗ (tLoc d ↦{fullShare} W (Proc.devRef .tc main_v21))
        ∗ (oLoc d ↦{fullShare} W (Proc.devRef .tc main_v22))) := by
  unfold StableHlo.held gatherRefs
  rw [SparseCore.bigSep_insert' (by decide), SparseCore.bigSep_insert' (by decide), bigSep_singleton]

section Calls

variable (Wg Wc : Dev nD → Valuation τ sig (Elt F))

/-- What stays with the TensorCore during the SparseCore call. -/
abbrev besides (d : Dev nD) : sProp 𝕄 := StableHlo.held (SparseCore.T d) (ucRefs τ sig \ gatherRefs) (Wg d)

/-- The arrays at the SparseCore call: its operands, and the rest. -/
theorem before_gather (d : Dev nD) : (StableHlo.held (SparseCore.T d) (ucRefs τ sig) (Wg d) : sProp 𝕄)
    = iprop((bigSep Finset.univ fun c : Fin ((K (F := F)).nCore 0) => (P (operands Wg)).st 0 d c) ∗ besides Wg d) := by
  rw [StableHlo.held_sub_split (SparseCore.T d) gatherRefs_sub, gatherRefs_held, st_eq]; rfl

/-- Its results, and the rest: the arrays after it. -/
theorem after_gather (d : Dev nD) : (StableHlo.held (SparseCore.T d) (ucRefs τ sig) (gatheredAt Wg d) : sProp 𝕄)
    = iprop((bigSep Finset.univ fun c : Fin ((K (F := F)).nCore 0) => (P (operands Wg)).dn 0 d c) ∗ besides Wg d) := by
  have hrest : ∀ b ∈ ucRefs τ sig \ gatherRefs, gatheredAt Wg d b = Wg d b := fun b hb =>
    Function.update_of_ne (fun h => (Finset.mem_sdiff.1 hb).2 (by rw [h]; simp)) ..
  rw [StableHlo.held_sub_split (SparseCore.T d) gatherRefs_sub, gatherRefs_held, dn_eq, StableHlo.held_congr (SparseCore.T d) hrest]
  unfold gatheredAt
  rw [Function.update_self, Function.update_of_ne (StableHlo.devRef_ne_of_ne (by decide)), Function.update_of_ne (StableHlo.devRef_ne_of_ne (by decide))]
  rfl

/-- The arrays after the TensorCore call: its own as it leaves them, the rest as they were. -/
theorem after_call (d : Dev nD) : (StableHlo.held (SparseCore.T d) (ucRefs τ sig) (leave Wc d) : sProp 𝕄)
    = iprop(StableHlo.held (SparseCore.T d) callRefs (leave Wc d) ∗ StableHlo.held (SparseCore.T d) (ucRefs τ sig \ callRefs) (Wc d)) := by
  have hrest : ∀ b ∈ ucRefs τ sig \ callRefs, leave Wc d b = Wc d b := fun b hb =>
    leave_ne _ _ fun h => (Finset.mem_sdiff.1 hb).2 (by
      rw [h]; exact Finset.mem_map.2 ⟨main_v24, Finset.mem_image.2 ⟨4, Finset.mem_univ _, rfl⟩, rfl⟩)
  rw [StableHlo.held_sub_split (SparseCore.T d) callRefs_sub, StableHlo.held_congr (SparseCore.T d) hrest]

end Calls

/-- After the SparseCore call nothing is owed: the core's state is the settled core and what the handshakes keep. -/
theorem tcSt_settled (d : Dev nD) : ∃ R : sProp 𝕄, ((K (F := F)).tcSt EH d 1 : sProp 𝕄) = iprop(settled d ∗ R) := by
  unfold SparseCore.Cfg.tcSt
  rw [(K (F := F)).Otc_end d (le_refl 1)]
  exact ⟨_, rfl⟩

theorem hostOps_within : ∀ op ∈ (hostOps : List (HloOp τ sig (Elt F))), op.bufs ⊆ ucRefs τ sig := fun op h =>
  Pipeline.sub_ucRefs op (List.forall_iff_forall_mem.1 hostOps_sub op h)

theorem rowOp_within : ∀ op ∈ ([rowOp] : List (HloOp τ sig (Elt F))), op.bufs ⊆ ucRefs τ sig := fun op h =>
  Pipeline.sub_ucRefs op (by rw [List.mem_singleton.1 h]; exact StableHlo.reshape_bufs_sub ..)

theorem rowOp_fresh : ∀ op ∈ ([rowOp] : List (HloOp τ sig (Elt F))), op.fresh = ∅ := fun op h => by rw [List.mem_singleton.1 h]; rfl

theorem main_eq (d : Dev nD) : main (F := F) d = StableHlo.seq hostOps >>= fun _ => (K (F := F)).run d 0 >>= fun _ =>
    StableHlo.seq [rowOp] >>= fun _ => Prog.lift (.customCall (SparseCore.inner (Pipeline.entry 0)) ()) >>= fun _ => pure ⟨⟩ := rfl

set_option backward.isDefEq.respectTransparency.types false in
/-- The host program on device `d`'s TensorCore. -/
theorem main_wp (Wg Wc : Dev nD → Valuation τ sig (Elt F)) (hg : ∀ d, (StableHlo.after hostOps fun b => m (d, b)) = Wg d)
    (hc : ∀ d, StableHlo.after [rowOp] (gatheredAt Wg d) = Wc d) (κ : GSem nD τ sig → ℕ) (d : Dev nD) :
    iprop((K (F := F)).ctx EH (P (operands Wg)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ StableHlo.held (SparseCore.T d) (ucRefs τ sig) (leave Wc d) ∗ (K (F := F)).tcEnd d) := by
  obtain ⟨R, hR⟩ := tcSt_settled (F := F) d
  unfold SparseCore.Cfg.tcRes SparseCore.Cfg.tcEnd
  rw [show (unscopedBufs d (fun b => m ((SparseCore.T d).loc b)) : sProp 𝕄) = StableHlo.held (SparseCore.T d) (ucRefs τ sig) (fun b => m (d, b)) from
    Pipeline.unscopedBufs_held d (fun b => m (d, b)), main_eq]
  iintro ⟨#Hctx, Hst, ⟨Hb, Hbufs, Hts, -⟩, HG⟩
  iapply (StableHlo.wp_seq 𝒱 none Set.univ d (ucRefs τ sig) _ hostOps hostOps_within hostOps_fresh (fun b => m (d, b))) $$ [Hb Hbufs]
  · isplitl [Hb]; · iexact Hb
    iexact Hbufs
  rw [hg]
  iintro ⟨Hb, Hbufs⟩
  ihave Hbufs' := (Entails.of_eq (before_gather Wg d)) $$ Hbufs
  icases Hbufs' with ⟨Hops, Hrest⟩
  rw [wp_bind]
  iapply ((K (F := F)).wp_run (D (F := F)) 𝒱 (EH := EH) (P := P (operands Wg)) κ d 0)
  isplitr; · iexact Hctx
  isplitl [Hst]; · iexact Hst
  isplitl [Hops]; · iexact Hops
  iintro ⟨Hst, Hdn⟩
  iapply (StableHlo.wp_seq 𝒱 none Set.univ d (ucRefs τ sig) _ [rowOp] rowOp_within rowOp_fresh (gatheredAt Wg d)) $$ [Hb Hdn Hrest]
  · isplitl [Hb]; · iexact Hb
    rw [after_gather]
    isplitl [Hdn]; · iexact Hdn
    iexact Hrest
  rw [hc]
  iintro ⟨Hb, Hbufs⟩
  ihave Hbufs' := (Entails.of_eq (StableHlo.held_sub_split (SparseCore.T d) callRefs_sub (Wc d))) $$ Hbufs
  icases Hbufs' with ⟨Hcall, Hrest⟩
  ihave Hst' := (show ((K (F := F)).tcSt EH d ((0 : Fin 1).val + 1) : sProp 𝕄) ⊢ iprop(settled d ∗ R) from Entails.of_eq hR) $$ Hst
  icases Hst' with ⟨Hset, HR⟩
  rw [wp_bind]
  iapply (call_wp Wc d)
  isplitr [Hb Hcall Hset HG]
  · iintro ⟨Hb, Hcall, Hset⟩
    rw [wp_pure]
    imodintro
    rw [hR]
    isplitl [Hset HR]
    · isplitl [Hset]; · iexact Hset
      iexact HR
    isplitl [Hcall Hrest]
    · rw [after_call]
      isplitl [Hcall]; · iexact Hcall
      iexact Hrest
    isplitl [Hb] <;> iassumption
  isplitl [Hb]; · iexact Hb
  isplitl [Hcall Hset]
  · isplitl [Hcall]; · iexact Hcall
    iexact Hset
  isplitr
  · iapply ((K (F := F)).ctx_levAts κ) $$ Hctx
  iexact HG

/-! ## The run -/

/-- What a TensorCore holds when its host program returns. -/
abbrev FIN (d : Dev nD) : sProp 𝕄 := StableHlo.held (SparseCore.T d) (ucRefs τ sig) (atEnd m d)

/-- Each unscoped buffer holds its last contents. -/
def fq (d : Dev nD) (s' : Phys nD τ sig (Elt F)) : Prop := ∀ b ∈ ucRefs τ sig, s'.mem.mem (d, b) = atEnd m d b

theorem hfin (d : Dev nD) (s' : Phys nD τ sig (Elt F)) : iprop(FIN m d ∗ SI s') ⊢ (⌜fq m d s'⌝ : sProp 𝕄) :=
  fun a ha b hb => funext fun i => ((sep_mono (bigSep_elim hb) .rfl).trans (sep_comm.1.trans SI_pointsTo_agree)) a ha i (Finset.mem_univ i)

/-- What every run ends with. -/
def QC : PUnit × MemSt nD τ sig (Elt F) → Prop := fun r => (∀ d : Dev nD, ∀ b ∈ ucRefs τ sig, r.2.mem (d, b) = atEnd m d b) ∧ r.2.sem = fun _ => 0

/-- An argument ends as it was at the launch. -/
theorem QC.arg {r : PUnit × MemSt nD τ sig (Elt F)} (h : QC m r) (d : Dev nD) (b : Ref sig .tc) (hb : b ∈ arguments) :
    r.2.mem ((d.tc : Thread nD τ).loc b) = m ((d.tc : Thread nD τ).loc b) :=
  have k := arguments_kept b hb
  (h.1 d _ (Pipeline.devRef_mem_ucRefs k.1)).trans (atEnd_keep m d k.2.1 k.2.2.1 k.2.2.2.1 k.2.2.2.2)

theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P (operands (atGather m))) (A := ∅) facts v₀
    (fun q hq => match q with | 0 => nomatch hq)
    (fun q _ => match q with | 0 => tileObl (operands (atGather m)) facts (operands_ok _ fun d => ⟨_, _, after_rowNumbers _⟩))
    (fun q _ => match q with | 0 => SparseCore.Cfg.VecSplit.of_plain (vecSplit (operands (atGather m))))
    m ρ main G (FIN m) (u₀ (F := F)) (sep_elim_left.trans (hu₀ (operands (atGather m)))) (main_wp m ρ (atGather m) (atCall m) (fun _ => rfl) fun _ => rfl) (fq m) (hfin m) (QC m) (fun _ h hz => ⟨h, hz⟩)

end Cert.KernelIdeal.Unpool

end
-- ==== Proof.KernelIdeal.Unpooled.lean ====
/-
  The gathered rows are the reference's array: the reference scatters the 2048 rows into 4096 and those into 8192, over zeros; the kernel scatters the rows'
  numbers in the same way, over −1, and gathers the rows by number, a row of zeros standing in for −1. At any float values.
-/
module

public import proofs.«01_k».proof.Proof.KernelIdeal.HostOps
public import proofs.«01_k».proof.Proof.Gen.ReferenceIdeal
public import Idealize.ShloMosaic.Lib.Pipeline.Value

@[expose] public section

noncomputable section

namespace Cert.Unpool

open Idealize.ShloMosaic Idealize.ShloMosaic.ValueIdx Cert.ReferenceIdeal Cert.ReferenceIdeal.Gen
open Cert.KernelIdeal.Unpool (wrapped innerRow outerRow rowNumbers table gathered)

variable {F : FTy → Type} [FloatOps F]

/-- The inner un-pooling: the 2048 rows among 4096. -/
def inner (idx1 : IVec S2048 32) (h : Vec F S2048x128 .f32) : Vec F S4096x128 .f32 :=
  Host.scatter scatter_S4096x128_S2048x1_S2048x128_1_0_0_1 (fun _ b => b) (broadcastInDim S4096x128 ![] bcast_S_S4096x128 (constant S_ .f32 0x00000000#32))
    (broadcastInDim S2048x1 ![0] bcast_S2048_S2048x1_0 (wrapped idx1 (broadcastInDim S2048 ![] bcast_S_S2048 (constantI S_ 32 0#32))
      (broadcastInDim S2048 ![] bcast_S_S2048 (constantI S_ 32 4096#32)))) h

/-- The outer: those 4096 among 8192. -/
def outer (idx0 : IVec S4096 32) (idx1 : IVec S2048 32) (h : Vec F S2048x128 .f32) : Vec F S8192x128 .f32 :=
  Host.scatter scatter_S8192x128_S4096x1_S4096x128_1_0_0_1 (fun _ b => b) (broadcastInDim S8192x128 ![] bcast_S_S8192x128 (constant S_ .f32 0x00000000#32))
    (broadcastInDim S4096x1 ![0] bcast_S4096_S4096x1_0 (wrapped idx0 (broadcastInDim S4096 ![] bcast_S_S4096 (constantI S_ 32 0#32))
      (broadcastInDim S4096 ![] bcast_S_S4096 (constantI S_ 32 8192#32)))) (inner idx1 h)

/-- A row number and an entry of column `c` agree: −1 and zero, or a row's number and that row's entry. -/
def Agree (h : Vec F S2048x128 .f32) (c : Fin 128) (n : BitVec 32) (f : F .f32) : Prop :=
  n = 4294967295#32 ∧ f = FloatOps.ofBits .f32 0x00000000#32 ∨ ∃ k : Fin 2048, n = BitVec.ofNat 32 k.val ∧ f = h (ix2 k c)

variable (idx0 : IVec S4096 32) (idx1 : IVec S2048 32) (h : Vec F S2048x128 .f32)

/-- A column of zeros agrees with a list of −1's. -/
theorem start_agree (c : Fin 128) {n : IVec S_ 32} {z : Vec F S_ .f32} (hn : n = constantI S_ 32 4294967295#32) (hz : z = constant S_ .f32 0x00000000#32)
    {s t : Shape} (hs : S_.BroadcastsInDim s ![]) (ht : S_.BroadcastsInDim t ![]) (i : s.Idx) (j : t.Idx) :
    Agree h c (broadcastInDim s ![] hs n i) (broadcastInDim t ![] ht z j) := by
  subst hn hz
  exact .inl ⟨rfl, rfl⟩

theorem inner_agree (c : Fin 128) (r : Fin 4096) : Agree h c (innerRow idx1 (ix1 r)) (inner idx1 h (ix2 r c)) := by
  unfold innerRow inner
  refine scatter_in_step (N := 4096) (M := 2048) (C := 128) (Agree h c) c ⟨_, rfl⟩ ⟨_, rfl⟩ _ _ _ _ _ (fun _ => ?_) (fun k => ?_) r
  · exact start_agree h c rfl rfl ..
  · exact .inr ⟨k, rfl, rfl⟩

theorem outer_agree (c : Fin 128) (r : Fin 8192) : Agree h c (outerRow idx0 idx1 (ix1 r)) (outer idx0 idx1 h (ix2 r c)) := by
  unfold outerRow outer
  refine scatter_in_step (N := 8192) (M := 4096) (C := 128) (Agree h c) c ⟨_, rfl⟩ ⟨_, rfl⟩ _ _ _ _ _ (fun _ => ?_) (fun k => ?_) r
  · exact start_agree h c rfl rfl ..
  · exact inner_agree idx1 h c k

/-- The table's row 2048 is zero. -/
theorem table_last (r : Fin 2049) (hr : r.val = 2048) (c : Fin 128) : table h (ix2 r c) = FloatOps.ofBits .f32 0x00000000#32 := by
  unfold table
  exact concatenate_pair_apply_right (s₁ := S2048x128) (s₂ := S1x128) (0 : Fin 2) h _ _ (ix2 r c) rfl rfl (ix2 (0 : Fin 1) c)
    (fun | 0 => fun ne => (ne rfl).elim | 1 => fun _ => rfl) (show 0 + 2048 = r.val by omega)

/-- Its other rows are the 2048 rows. -/
theorem table_row (k : Fin 2048) (c : Fin 128) : table h (ix2 (⟨k.val, by omega⟩ : Fin 2049) c) = h (ix2 k c) := by
  unfold table
  exact concatenate_pair_apply_left (s₁ := S2048x128) (s₂ := S1x128) (0 : Fin 2) h _ _ (ix2 (⟨k.val, by omega⟩ : Fin 2049) c) rfl (ix2 k c) (fun | 0 => rfl | 1 => rfl)

/-- The table's row for a number that agrees with an entry holds that entry. -/
theorem table_agree {c : Fin 128} {n : BitVec 32} {f : F .f32} (a : Agree h c n f) (r : Fin 2049)
    (hr : r.val = min (Scalar.select (IntOp.cmpi .sge n 0#32) n 2048#32).toNat 2048) : table h (ix2 r c) = f := by
  rcases a with ⟨rfl, rfl⟩ | ⟨k, rfl, rfl⟩
  · exact table_last h r (hr.trans (by decide)) c
  · have hk : (BitVec.ofNat 32 k.val).toNat = k.val := by rw [BitVec.toNat_ofNat, Nat.mod_eq_of_lt (by omega)]
    have hs : IntOp.cmpi .sge (BitVec.ofNat 32 k.val) 0#32 = 1#1 := by rw [WordCmp.cmpi_sge_zero, hk, decide_eq_true (by omega)]; rfl
    rw [hs, ValueIdx.select_one, hk] at hr
    rw [show r = ⟨k.val, by omega⟩ from Fin.ext (by show r.val = k.val; omega)]
    exact table_row h k c

/-- So does the row gathered for it. -/
theorem gathered_agree {r : Fin 8192} {c : Fin 128} {n : IVec Cert.KernelIdeal.S8192 32} {o : BitVec 32} {f : F .f32} (a : Agree h c o f)
    (hn : n (ix1 r) = Scalar.select (IntOp.cmpi .sge o 0#32) o 2048#32) : gathered (V := Elt F) n (table h) (ix2 r c) = f := by
  have hr : (fun | 0 => r : Cert.KernelIdeal.S8192.Idx) = ix1 r := funext fun | 0 => rfl
  rw [← hr] at hn
  refine Eq.trans ?_ (table_agree h a ⟨min (n fun | 0 => r).toNat 2048, by omega⟩ (by rw [← hn]))
  generalize table h = t
  unfold gathered
  exact congrArg t (funext fun | 0 => rfl | 1 => rfl)

theorem gathered_eq : gathered (V := Elt F) (rowNumbers idx0 idx1) (table h) = outer idx0 idx1 h := by
  funext x
  obtain ⟨r, c, rfl⟩ : ∃ (r : Fin 8192) (c : Fin 128), x = ix2 r c := ⟨x 0, x 1, eq_ix2 x⟩
  refine gathered_agree h (outer_agree idx0 idx1 h c r) ?_
  unfold rowNumbers
  generalize outerRow idx0 idx1 = o
  rfl

end Cert.Unpool

end
-- ==== Proof.KernelIdeal.Entry.lean ====
/-
  One entry of the result, at the extended reals: what one grid point's body computes at row `y` of its block is what the reference computes at the row of
  the array that block row is — the two products' sums term by term, the weights read across in the one and transposed in the other, the bias, and the
  maximum with zero.
-/
module

public import proofs.«01_k».proof.Proof.Gen.KernelIdeal.Skeleton
public import proofs.«01_k».proof.Proof.Gen.ReferenceIdeal
public import Idealize.ShloMosaic.Lib.MatmulPlain
public import Idealize.ShloMosaic.Lib.StackMember
public import Idealize.ShloMosaic.Lib.KernelVsHost
public import Idealize.ShloMosaic.Lib.Pipeline.Value

@[expose] public section

noncomputable section

namespace Cert.Unpool

open Idealize.ShloMosaic Idealize.ShloMosaic.ValueIdx Cert.ReferenceIdeal Cert.ReferenceIdeal.Gen

/-- The reference's result from the un-pooled rows: the two products, the bias and the maximum with zero. -/
def result (a : Vec Ideal S8192x8192 .f32) (rows : Vec Ideal S8192x128 .f32) (w : Vec Ideal S128x128 .f32) (b : Vec Ideal S128 .f32) : Vec Ideal S8192x128 .f32 :=
  maximumf (F := Ideal) (φ := .f32) (addf (Host.dotGeneral (φ₁ := .f32) (φ₂ := .f32) dot_S8192x128_S128x128_S8192x128_1_0_0_1_n_n none
      (Host.dotGeneral (φ₁ := .f32) (φ₂ := .f32) dot_S8192x8192_S8192x128_S8192x128_1_0_0_1_n_n none a rows) (transpose S128x128 [1, 0] w transposes_S128x128_S128x128_1_0))
      (broadcastInDim S8192x128 ![0, 1] bcast_S1x128_S8192x128_0_1 (broadcastInDim S1x128 ![1] bcast_S128_S1x128_1 b)))
    (broadcastInDim S8192x128 ![] bcast_S_S8192x128 (constant S_ .f32 0x00000000#32))

/-- The first product at row `r`, column `k`. -/
theorem host_first (a : Vec Ideal S8192x8192 .f32) (rows : Vec Ideal S8192x128 .f32) (r : Fin 8192) (k : Fin 128) :
    Host.dotGeneral (F := Ideal) (φ₁ := .f32) (φ₂ := .f32) dot_S8192x8192_S8192x128_S8192x128_1_0_0_1_n_n none a rows (ix2 r k) = ∑ j : Fin 8192, a (ix2 r j) * rows (ix2 j k) :=
  StackMember.dotGeneral_plain_apply none a rows r k

/-- The second, over the first's. -/
theorem host_second (x : Vec Ideal S8192x128 .f32) (w : Vec Ideal S128x128 .f32) (r : Fin 8192) (c : Fin 128) :
    Host.dotGeneral (F := Ideal) (φ₁ := .f32) (φ₂ := .f32) dot_S8192x128_S128x128_S8192x128_1_0_0_1_n_n none x
      (transpose S128x128 [1, 0] w transposes_S128x128_S128x128_1_0) (ix2 r c) = ∑ k : Fin 128, x (ix2 r k) * w (ix2 c k) := by
  refine (StackMember.dotGeneral_plain_apply none x _ r c).trans (Finset.sum_congr rfl fun k _ => congrArg (x (ix2 r k) * ·) ?_)
  exact transpose_apply [1, 0] w _ (ix2 k c) (ix2 c k) (fun | 0 => rfl | 1 => rfl)

/-- The bias at column `c`. -/
theorem host_bias (b : Vec Ideal S128 .f32) (r : Fin 8192) (c : Fin 128) :
    broadcastInDim S8192x128 ![0, 1] bcast_S1x128_S8192x128_0_1 (broadcastInDim S1x128 ![1] bcast_S128_S1x128_1 b) (ix2 r c) = b (ix1 c) :=
  (broadcastInDim_apply ![0, 1] _ _ (ix2 r c) (ix2 (0 : Fin 1) c) (fun | 0 => rfl | 1 => rfl)).trans
    (broadcastInDim_apply ![1] _ b (ix2 (0 : Fin 1) c) (ix1 c) (fun | 0 => rfl))

/-- The body's entry at row `y` of its block is the reference's at row `r`, if the block's row `y` is the array's row `r` and the bias's row is the bias. -/
theorem payload_eq (v0 : Vec Ideal Cert.KernelIdeal.S256x8192 .f32) (v1 : Vec Ideal S8192x128 .f32) (v4 : Vec Ideal S128x128 .f32) (v6 : Vec Ideal S1x128 .f32)
    (a : Vec Ideal S8192x8192 .f32) (b : Vec Ideal S128 .f32) (y : Fin 256) (r : Fin 8192) (c : Fin 128)
    (ha : ∀ j : Fin 8192, v0 (ix2 y j) = a (ix2 r j)) (hb : v6 (ix2 (0 : Fin 1) c) = b (ix1 c)) :
    Cert.KernelIdeal.Gen.k1_pay1 v0 v1 v4 v6 (ix2 y c) = result a v1 v4 b (ix2 r c) := by
  have first : ∀ k : Fin 128, matmul (F := Ideal) (φ₁ := .f32) (φ₂ := .f32) Cert.KernelIdeal.dot_S256x8192_S8192x128_S256x128_1_0_0_1_n_n none v0 v1
      (constant Cert.KernelIdeal.S256x128 .f32 0x00000000#32) (ix2 y k) = ∑ j : Fin 8192, v0 (ix2 y j) * v1 (ix2 j k) := fun k => by
    refine (Ideal.matmul_plain_apply none v0 v1 _ y k).trans ?_
    rw [constant_apply, Ideal.ofBits_zero_f32, zero_add]
  have second : ∀ x : Vec Ideal Cert.KernelIdeal.S256x128 .f32, matmul (F := Ideal) (φ₁ := .f32) (φ₂ := .f32) Cert.KernelIdeal.dot_S256x128_S128x128_S256x128_1_1_0_0_n_n none x v4
      (constant Cert.KernelIdeal.S256x128 .f32 0x00000000#32) (ix2 y c) = ∑ k : Fin 128, x (ix2 y k) * v4 (ix2 c k) := fun x => by
    refine (Ideal.matmul_transposedRhs_apply none x v4 _ y c).trans ?_
    rw [constant_apply, Ideal.ofBits_zero_f32, zero_add]
  have bias : broadcastTo Cert.KernelIdeal.S256x128 v6 Cert.KernelIdeal.Gen.broadcasts_S1x128_S256x128 (ix2 y c) = v6 (ix2 (0 : Fin 1) c) :=
    broadcastTo_apply v6 _ (ix2 y c) (ix2 (0 : Fin 1) c) (fun | 0 => rfl | 1 => rfl)
  unfold Cert.KernelIdeal.Gen.k1_pay1 result
  rw [shapeCast_self, shapeCast_self]
  refine congrArg₂ (fun x y : EReal => max x y) (congrArg₂ (fun x y : EReal => x + y) ?_ ?_) ?_
  · refine (second _).trans ((host_second _ v4 r c).trans (Finset.sum_congr rfl fun k _ => congrArg (· * v4 (ix2 c k)) ?_)).symm
    refine (host_first a v1 r k).trans (((first k).trans (Finset.sum_congr rfl fun j _ => ?_)).symm)
    rw [ha]
  · exact bias.trans (hb.trans (host_bias b r c).symm)
  · rfl

end Cert.Unpool

end
-- ==== Proof.KernelIdeal.Value.lean ====
/-
  The array the TensorCore call leaves, at the extended reals: every entry lies in the block of one grid point, which reads its 256 rows of the first
  operand and the whole of the others; so the array is the reference's result of the un-pooled rows.
-/
module

public import proofs.«01_k».proof.Proof.KernelIdeal.Main
public import proofs.«01_k».proof.Proof.KernelIdeal.Unpooled
public import proofs.«01_k».proof.Proof.KernelIdeal.Entry
public import Idealize.ShloMosaic.Lib.Pipeline.ValueKit.Geometry

@[expose] public section

noncomputable section

namespace Cert.KernelIdeal.Unpool

open Cert.KernelIdeal Cert.KernelIdeal.Gen
open Idealize.ShloMosaic Idealize.ShloMosaic.TcCoe Idealize.ShloMosaic.ValueIdx Idealize.SL.Sem

/-! ## Where a block's entries lie -/

theorem index_rows : ∀ t : Fin cfg1.N, win1_0.index t = ![t.val, 0] ∧ win1_4.index t = ![t.val, 0] := (by decide +kernel : ∀ t : Fin grid1.N, _)
theorem index_whole : ∀ t : Fin cfg1.N, win1_1.index t = ![0, 0] ∧ win1_2.index t = ![0, 0] ∧ win1_3.index t = ![0, 0] :=
  (by decide +kernel : ∀ t : Fin grid1.N, _)

/-- The array row that is row `y` of block `t`. -/
def row (t : Fin cfg1.N) (y : Fin 256) : Fin 8192 := ⟨t.val * 256 + y.val, by have : t.val < 32 := t.isLt; omega⟩

theorem place_in (t : Fin cfg1.N) (y : Fin 256) (j : Fin 8192) : ((cfg1.win 0).blk t).view.emb (ix2 y j : S256x8192.Idx) = (ix2 (row t y) j : S8192x8192.Idx) := by
  have e := (index_rows t).1
  blk_ext [e, row]

theorem place_out (t : Fin cfg1.N) (y : Fin 256) (c : Fin 128) : ((cfg1.win 4).blk t).view.emb (ix2 y c : S256x128.Idx) = (ix2 (row t y) c : S8192x128.Idx) := by
  have e := (index_rows t).2
  blk_ext [e, row]

/-- Every entry of the output array is in some point's block. -/
theorem covered (i : S8192x128.Idx) : ∃ t : Fin cfg1.N, (cfg1.win 4).flush t = true ∧ i ∈ ((cfg1.win 4).blk t).view.set := by
  obtain ⟨r, c, rfl⟩ : ∃ (r : Fin 8192) (c : Fin 128), i = ix2 r c := ⟨i 0, i 1, eq_ix2 i⟩
  let t : Fin cfg1.N := ⟨r.val / 256, by show r.val / 256 < 32; omega⟩
  have h := ((cfg1.win 4).blk t).view.emb_mem_set (ix2 (⟨r.val % 256, by omega⟩ : Fin 256) c : S256x128.Idx)
  rw [place_out, show row t ⟨r.val % 256, by omega⟩ = r from Fin.ext (by show r.val / 256 * 256 + r.val % 256 = r.val; omega)] at h
  exact ⟨t, flush1_4 t, h⟩

/-! ## What each point reads and leaves -/

variable (Wc : Dev nD → Valuation τ sig (Elt Ideal)) (d : Dev nD) (t : Fin cfg1.N)

theorem block_in (y : Fin 256) (j : Fin 8192) :
    (blockAt Wc d 0 t : Vec Ideal S256x8192 .f32) (ix2 y j) = (Wc d (Proc.devRef .tc main_arg0) : Vec Ideal S8192x8192 .f32) (ix2 (row t y) j) :=
  congrArg (Wc d (Proc.devRef .tc main_arg0) : Vec Ideal S8192x8192 .f32) (place_in t y j)

theorem block_rows : (blockAt Wc d 1 t : Vec Ideal S8192x128 .f32) = Wc d (Proc.devRef .tc main_v22) := funext fun x =>
  congrArg (Wc d (Proc.devRef .tc main_v22) : Vec Ideal S8192x128 .f32) (by
    have e := (index_whole t).1
    show ((cfg1.win 1).blk t).view.emb x = x
    blk_ext [e])

theorem block_weights : (blockAt Wc d 2 t : Vec Ideal S128x128 .f32) = Wc d (Proc.devRef .tc main_arg5) := funext fun x =>
  congrArg (Wc d (Proc.devRef .tc main_arg5) : Vec Ideal S128x128 .f32) (by
    have e := (index_whole t).2.1
    show ((cfg1.win 2).blk t).view.emb x = x
    blk_ext [e])

theorem block_bias : (blockAt Wc d 3 t : Vec Ideal S1x128 .f32) = Wc d (Proc.devRef .tc main_v23) := funext fun x =>
  congrArg (Wc d (Proc.devRef .tc main_v23) : Vec Ideal S1x128 .f32) (by
    have e := (index_whole t).2.2
    show ((cfg1.win 3).blk t).view.emb x = x
    blk_ext [e])

theorem zeros : (![0, 0] : Fin 2 → Nat) = fun _ => 0 := funext fun | 0 => rfl | 1 => rfl

/-- Every load and the store are of whole buffers. -/
theorem stored_eq (x0 : Vec Ideal S256x8192 .f32) (x1 : Vec Ideal S8192x128 .f32) (x2 : Vec Ideal S128x128 .f32) (x3 : Vec Ideal S1x128 .f32) :
    stored x0 x1 x2 x3 = k1_pay1 x0 x1 x2 x3 := by
  unfold stored
  rw [View.canon_unit_zero zeros, View.ld_unit_zero zeros, View.ld_unit_zero zeros, View.ld_unit_zero zeros, View.ld_unit_zero zeros]

/-- The array after the call: the reference's result of the call's operands. -/
theorem arrAt_out (b : Vec Ideal S128 .f32) (hb : ∀ c : Fin 128, (Wc d (Proc.devRef .tc main_v23) : Vec Ideal S1x128 .f32) (ix2 (0 : Fin 1) c) = b (ix1 c)) :
    (dat Wc d).arrAt 4 cfg1.N = Cert.Unpool.result (Wc d (Proc.devRef .tc main_arg0)) (Wc d (Proc.devRef .tc main_v22)) (Wc d (Proc.devRef .tc main_arg5)) b := by
  refine (dat Wc d).arrAt_eq_of_cover 4 _ (fun t _ => ?_) covered
  funext x
  obtain ⟨y, c, rfl⟩ : ∃ (y : Fin 256) (c : Fin 128), x = (ix2 y c : S256x128.Idx) := ⟨x 0, x 1, eq_ix2 x⟩
  show (dat Wc d).after 4 t (ix2 y c) = Cert.Unpool.result _ _ _ b (((cfg1.win 4).blk t).view.emb (ix2 y c : S256x128.Idx))
  rw [place_out, after_out, stored_eq, block_rows, block_weights]
  exact Cert.Unpool.payload_eq _ _ _ _ _ b y (row t y) c (block_in Wc d t y) ((congrFun (block_bias Wc d t) _).trans (hb c))

/-! ## From the launch -/

variable (m : (ℓ : Loc nD τ sig) → Buf (Elt Ideal) ℓ)

/-- The bias's row, when the TensorCore call is made. -/
theorem after_row (V : Valuation τ sig (Elt Ideal)) : StableHlo.after [rowOp] V (Proc.devRef .tc main_v23)
    = shapeCast S1x128 (V (Proc.devRef .tc main_arg6) : Vec Ideal S128 .f32) shapeCasts_S128_S1x128 := by
  simp only [rowOp]; after_results_simp <;> rfl

/-- An argument is still as it was at the launch. -/
theorem atCall_arg {r : Ref sig .tc} (h23 : r ≠ main_v23) (h22 : r ≠ main_v22) (h : r ∉ written) : atCall m d (Proc.devRef .tc r) = m (d, Proc.devRef .tc r) := by
  rw [atCall_keep m d h23]
  unfold gatheredAt
  rw [Function.update_of_ne (StableHlo.devRef_ne_of_ne h22)]
  exact hostOps_keep _ h

/-- The array of gathered rows, after the SparseCore call. -/
theorem gatheredAt_rows (Wg : Dev nD → Valuation τ sig (Elt Ideal)) {n : IVec S8192 32} {u : Vec Ideal S2049x128 .f32}
    (hn : Wg d (Proc.devRef .tc main_v19) = n) (hu : Wg d (Proc.devRef .tc main_v21) = u) :
    gatheredAt Wg d (Proc.devRef .tc main_v22) = gathered (V := Elt Ideal) n u := by
  subst hn hu
  exact Function.update_self ..

/-- The gathered rows are the reference's un-pooled ones. -/
theorem atCall_rows : (atCall m d (Proc.devRef .tc main_v22) : Vec Ideal S8192x128 .f32)
    = Cert.Unpool.outer (m (d, Proc.devRef .tc main_arg3)) (m (d, Proc.devRef .tc main_arg4)) (m (d, Proc.devRef .tc main_arg2)) :=
  (atCall_keep m d (by decide)).trans ((gatheredAt_rows d (atGather m) (after_rowNumbers _) (after_table _)).trans (Cert.Unpool.gathered_eq ..))

/-- The result array, when the host program returns. -/
theorem atEnd_out : atEnd m d (Proc.devRef .tc main_v24)
    = Cert.Unpool.result (m (d, Proc.devRef .tc main_arg0))
        (Cert.Unpool.outer (m (d, Proc.devRef .tc main_arg3)) (m (d, Proc.devRef .tc main_arg4)) (m (d, Proc.devRef .tc main_arg2)))
        (m (d, Proc.devRef .tc main_arg5)) (m (d, Proc.devRef .tc main_arg6)) := by
  unfold atEnd
  rw [leave_out, arrAt_out (atCall m) d (m (d, Proc.devRef .tc main_arg6)) fun c => ?_, atCall_rows, atCall_arg d m (by decide) (by decide) (by decide), atCall_arg d m (by decide) (by decide) (by decide)]
  unfold atCall
  rw [after_row]
  refine (shapeCast_apply _ _ (ix2 (0 : Fin 1) c) (ix1 c) (by rw [Shape.rowMajor_val_one, Shape.rowMajor_val_two]; show c.val = 0 * 128 + c.val; omega)).trans ?_
  unfold gatheredAt
  rw [Function.update_of_ne (StableHlo.devRef_ne_of_ne (by decide))]
  exact congrFun (hostOps_keep (r := main_arg6) _ (by decide)) _

end Cert.KernelIdeal.Unpool

end
-- ==== Proof.lean ====
/-
  The claims, assembled: the kernel and its idealization each run to the end with their arguments unchanged and every semaphore back at zero; so does the
  reference, which has no semaphore; and at the extended reals the kernel's result array is the reference's, on every input.
-/
module

public import proofs.«01_k».proof.Defs
public import proofs.«01_k».proof.Proof.Kernel.Main
public import proofs.«01_k».proof.Proof.KernelIdeal.Value
public import proofs.«01_k».proof.Proof.Gen.ReferenceIdeal.Run
public import Idealize.ShloMosaic.Lib.Quiescent

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel runs to the end without fault, leaves its seven arguments as they were, and every semaphore is at zero afterwards. -/
theorem kernel_quiescent : Cert.quiescent_Kernel := fun m g _ =>
  (θ_run _ _ _).mono (fun _ h => ⟨fun c => by refine ⟨?_, ?_, ?_, ?_, ?_, ?_, ?_⟩ <;> exact h.arg m c _ (by decide), h.2⟩) (Cert.Kernel.Unpool.run_main m g)

/-- The same of the kernel over the extended reals. -/
theorem ideal_quiescent : Cert.quiescent_KernelIdeal := fun m g _ =>
  (θ_run _ _ _).mono (fun _ h => ⟨fun c => by refine ⟨?_, ?_, ?_, ?_, ?_, ?_, ?_⟩ <;> exact h.arg m c _ (by decide), h.2⟩) (Cert.KernelIdeal.Unpool.run_main m g)

/-- The same of the reference over the extended reals; it has no semaphore. -/
theorem reference_quiescent : Cert.quiescent_ReferenceIdeal := fun m g _ =>
  (θ_run _ _ _).mono (fun r h => ⟨fun c => (h c).2, sem_eq_zero_of_no_sems rfl r.2⟩) (Cert.ReferenceIdeal.Value.run m g)

/-- From memories that hold the same arguments the kernel and the reference, over the extended reals, end with the same result array. -/
theorem results_equal : Cert.algebraic_KernelIdeal_ReferenceIdeal := fun m g m' g' _ same =>
  ⟨fun c => Cert.KernelIdeal.Unpool.atEnd m c (Proc.devRef .tc Cert.KernelIdeal.main_v24),
    (θ_run _ _ _).mono (fun _ h c => ⟨h.1 c _ (Pipeline.devRef_mem_ucRefs rfl), by
      refine ⟨?_, ?_, ?_, ?_, ?_, ?_, ?_⟩ <;> exact h.arg m c _ (by decide)⟩) (Cert.KernelIdeal.Unpool.run_main m g),
    (θ_run _ _ _).mono (fun _ h c => by
      obtain ⟨e0, -, e2, e3, e4, e5, e6⟩ := same c
      refine ⟨(h c).1.trans ?_, (h c).2⟩
      rw [e0, e2, e3, e4, e5, e6]
      exact (Cert.KernelIdeal.Unpool.atEnd_out c m).symm) (Cert.ReferenceIdeal.Value.run m' g')⟩

/-- All five claims. That the ideal program is the kernel over the extended reals is `trivial`: idealizing the kernel rewrote no operation. -/
theorem claim : Cert.Claim :=
  ⟨Cert.Kernel.Gen.facts, Cert.KernelIdeal.Gen.facts, Cert.ReferenceIdeal.Gen.facts, kernel_quiescent, ideal_quiescent, reference_quiescent, trivial, results_equal⟩

end Cert.Proof

end
